-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_variances [hPre_positive_variances : Cert.Pre_positive_variances.Facts] (m : (ℓ : Loc Cert.KernelIdeal.nD Cert.KernelIdeal.τ Cert.KernelIdeal.sig) → Buf (Elt Ideal) ℓ) : Prop :=
  ∀ c : Dev Cert.KernelIdeal.nD,
    (Cert.Pre_positive_variances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_variances [hPre_positive_variances : Cert.Pre_positive_variances.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_variances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_positive_variances [hKernelIdeal : Cert.KernelIdeal.Facts] [hPre_positive_variances : Cert.Pre_positive_variances.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_variances m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_positive_variances [hReferenceIdeal : Cert.ReferenceIdeal.Facts] [hPre_positive_variances : Cert.Pre_positive_variances.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_variances m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_half_log_two_pi" .f32 0xBF6B3F8E#32 ((-((1 / 2) * (Real.log (2 * (13176795 / 4194304)))) : ℝ) : EReal)

def algebraic_KernelIdeal_ReferenceIdeal_pre_positive_variances [hKernelIdeal : Cert.KernelIdeal.Facts] [hReferenceIdeal : Cert.ReferenceIdeal.Facts] [hPre_positive_variances : Cert.Pre_positive_variances.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_variances m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_positive_variances : Cert.Pre_positive_variances.Facts),
    quiescent_Kernel (hKernel := hKernel)
    ∧ quiescent_KernelIdeal (hKernelIdeal := hKernelIdeal)
    ∧ quiescent_KernelIdeal_pre_positive_variances (hKernelIdeal := hKernelIdeal) (hPre_positive_variances := hPre_positive_variances)
    ∧ quiescent_ReferenceIdeal (hReferenceIdeal := hReferenceIdeal)
    ∧ quiescent_ReferenceIdeal_pre_positive_variances (hReferenceIdeal := hReferenceIdeal) (hPre_positive_variances := hPre_positive_variances)
    ∧ preserves_Kernel_KernelIdeal
    ∧ algebraic_KernelIdeal_ReferenceIdeal_pre_positive_variances (hKernelIdeal := hKernelIdeal) (hReferenceIdeal := hReferenceIdeal) (hPre_positive_variances := hPre_positive_variances)
-- ==== Pre_positive_variances.lean ====
abbrev S4096x64 : Shape := ⟨2, ![4096, 64]⟩
abbrev S128x64 : Shape := ⟨2, ![128, 64]⟩
abbrev S128x1x1 : Shape := ⟨3, ![128, 1, 1]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel

variable [Facts]

def fn {F : FTy → Type} [FloatOps F] (main_arg0 : FVec F S4096x64 .f32) (main_arg1 : FVec F S128x64 .f32) (main_arg2 : FVec F S128x64 .f32) (main_arg3 : FVec F S128x1x1 .f32) : IVec S_ 1 :=
  let main_cst : FVec F S_ .f32 := constant S_ .f32 0xFF800000#32
  let main_v0 : FVec F S128x64 .f32 := broadcastInDim S128x64 ![] bcast_S_S128x64 main_cst
  let main_v1 : IVec S128x64 1 := cmpf .ogt main_arg2 main_v0
  let main_c : IVec S_ 1 := constantI S_ 1 1#1
  let main_v2 : IVec S_ 1 := (fun x v => Host.reduce IntOp.andi x v reducesTo_S128x64_S_d0_1 h_S_) main_v1 main_c
  main_v2
-- ==== Kernel.lean ====
abbrev S4096x64 : Shape := ⟨2, ![4096, 64]⟩
abbrev S128x64 : Shape := ⟨2, ![128, 64]⟩
abbrev S128x1x1 : Shape := ⟨3, ![128, 1, 1]⟩
abbrev S2048x128 : Shape := ⟨2, ![2048, 128]⟩
abbrev S1024x64 : Shape := ⟨2, ![1024, 64]⟩
abbrev S64x1024 : Shape := ⟨2, ![64, 1024]⟩
abbrev S4x16x8x128 : Shape := ⟨4, ![4, 16, 8, 128]⟩
abbrev S4x8x16x128 : Shape := ⟨4, ![4, 8, 16, 128]⟩
abbrev S32x16x128 : Shape := ⟨3, ![32, 16, 128]⟩
abbrev S1x128x1x64 : Shape := ⟨4, ![1, 128, 1, 64]⟩
abbrev S1x128x2x64 : Shape := ⟨4, ![1, 128, 2, 64]⟩
abbrev S128x128 : Shape := ⟨2, ![128, 128]⟩
abbrev S1x128 : Shape := ⟨2, ![1, 128]⟩
abbrev S64x128 : Shape := ⟨2, ![64, 128]⟩
abbrev S128 : Shape := ⟨1, ![128]⟩
abbrev S16x128 : Shape := ⟨2, ![16, 128]⟩
abbrev S_ : Shape := ⟨0, ![]⟩
abbrev S1x16x128 : Shape := ⟨3, ![1, 16, 128]⟩
abbrev S16 : Shape := ⟨1, ![16]⟩
abbrev S15 : Shape := ⟨1, ![15]⟩
abbrev S1 : Shape := ⟨1, ![1]⟩
abbrev S14 : Shape := ⟨1, ![14]⟩
abbrev S2 : Shape := ⟨1, ![2]⟩
abbrev S12 : Shape := ⟨1, ![12]⟩
abbrev S4 : Shape := ⟨1, ![4]⟩
abbrev S8 : Shape := ⟨1, ![8]⟩
abbrev S1x16 : Shape := ⟨2, ![1, 16]⟩
abbrev S1536x128 : Shape := ⟨2, ![1536, 128]⟩
abbrev S1x1x128 : Shape := ⟨3, ![1, 1, 128]⟩
abbrev S1x1x1 : Shape := ⟨3, ![1, 1, 1]⟩
abbrev S128x1 : Shape := ⟨2, ![128, 1]⟩
abbrev S1x64x128 : Shape := ⟨3, ![1, 64, 128]⟩
abbrev S3072x64 : Shape := ⟨2, ![3072, 64]⟩
abbrev S64x3072 : Shape := ⟨2, ![64, 3072]⟩
abbrev S64x4096 : Shape := ⟨2, ![64, 4096]⟩

abbrev nBuf : Table → Nat
  | .hbm => 28
  | .local .tc .vmem => 11
  | .local .scVector .vmem => 8
  | _ => 0

abbrev bufTy : (tb : Table) → Fin (nBuf tb) → BufTy
  | .hbm, ⟨0, _⟩ => ⟨S4096x64, .f32⟩
  | .hbm, ⟨1, _⟩ => ⟨S128x64, .f32⟩
  | .hbm, ⟨2, _⟩ => ⟨S128x64, .f32⟩
  | .hbm, ⟨3, _⟩ => ⟨S128x1x1, .f32⟩
  | .hbm, ⟨4, _⟩ => ⟨S2048x128, .f32⟩
  | .hbm, ⟨5, _⟩ => ⟨S1024x64, .f32⟩
  | .hbm, ⟨6, _⟩ => ⟨S64x1024, .f32⟩
  | .hbm, ⟨7, _⟩ => ⟨S4x16x8x128, .f32⟩
  | .hbm, ⟨8, _⟩ => ⟨S4x8x16x128, .f32⟩
  | .hbm, ⟨9, _⟩ => ⟨S32x16x128, .f32⟩
  | .hbm, ⟨10, _⟩ => ⟨S1x128x1x64, .f32⟩
  | .hbm, ⟨11, _⟩ => ⟨S1x128x2x64, .f32⟩
  | .hbm, ⟨12, _⟩ => ⟨S128x128, .f32⟩
  | .hbm, ⟨13, _⟩ => ⟨S1x128x1x64, .f32⟩
  | .hbm, ⟨14, _⟩ => ⟨S1x128x2x64, .f32⟩
  | .hbm, ⟨15, _⟩ => ⟨S128x128, .f32⟩
  | .hbm, ⟨16, _⟩ => ⟨S1x128, .f32⟩
  | .hbm, ⟨17, _⟩ => ⟨S64x128, .f32⟩
  | .hbm, ⟨18, _⟩ => ⟨S64x128, .f32⟩
  | .hbm, ⟨19, _⟩ => ⟨S128, .f32⟩
  | .hbm, ⟨20, _⟩ => ⟨S32x16x128, .f32⟩
  | .hbm, ⟨21, _⟩ => ⟨S1536x128, .f32⟩
  | .hbm, ⟨22, _⟩ => ⟨S3072x64, .f32⟩
  | .hbm, ⟨23, _⟩ => ⟨S64x3072, .f32⟩
  | .hbm, ⟨24, _⟩ => ⟨S4x8x16x128, .f32⟩
  | .hbm, ⟨25, _⟩ => ⟨S4x16x8x128, .f32⟩
  | .hbm, ⟨26, _⟩ => ⟨S64x1024, .f32⟩
  | .hbm, ⟨27, _⟩ => ⟨S64x4096, .f32⟩
  | .local .tc .vmem, ⟨0, _⟩ => ⟨S64x128, .f32⟩
  | .local .tc .vmem, ⟨1, _⟩ => ⟨S64x128, .f32⟩
  | .local .tc .vmem, ⟨2, _⟩ => ⟨S128x128, .f32⟩
  | .local .tc .vmem, ⟨3, _⟩ => ⟨S128x128, .f32⟩
  | .local .tc .vmem, ⟨4, _⟩ => ⟨S1x128, .f32⟩
  | .local .tc .vmem, ⟨5, _⟩ => ⟨S64x128, .f32⟩
  | .local .tc .vmem, ⟨6, _⟩ => ⟨S64x128, .f32⟩
  | .local .tc .vmem, ⟨7, _⟩ => ⟨S128x128, .f32⟩
  | .local .tc .vmem, ⟨8, _⟩ => ⟨S128x128, .f32⟩
  | .local .tc .vmem, ⟨9, _⟩ => ⟨S128x128, .f32⟩
  | .local .tc .vmem, ⟨10, _⟩ => ⟨S1x128, .f32⟩
  | .local .scVector .vmem, ⟨0, _⟩ => ⟨S16x128, .f32⟩
  | .local .scVector .vmem, ⟨1, _⟩ => ⟨S16x128, .f32⟩
  | .local .scVector .vmem, ⟨2, _⟩ => ⟨S16x128, .f32⟩
  | .local .scVector .vmem, ⟨3, _⟩ => ⟨S16x128, .f32⟩
  | .local .scVector .vmem, ⟨4, _⟩ => ⟨S128, .f32⟩
  | .local .scVector .vmem, ⟨5, _⟩ => ⟨S128, .f32⟩
  | .local .scVector .vmem, ⟨6, _⟩ => ⟨S128, .f32⟩
  | .local .scVector .vmem, ⟨7, _⟩ => ⟨S128, .f32⟩
  | _, _ => ⟨S4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v5_scv : Ref sig .scVector := ⟨.hbm, 9, rfl⟩
abbrev main_v13_scv : Ref sig .scVector := ⟨.hbm, 17, rfl⟩
abbrev main_v14_scv : Ref sig .scVector := ⟨.hbm, 18, rfl⟩
abbrev main_v15_scv : Ref sig .scVector := ⟨.hbm, 19, rfl⟩
abbrev main_v16_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc1_scratch0 : Ref sig .tc := ⟨.vmem, 7, rfl⟩
abbrev cc1_scratch1 : Ref sig .tc := ⟨.vmem, 8, rfl⟩
abbrev cc1_scratch2 : Ref sig .tc := ⟨.vmem, 9, rfl⟩
abbrev cc1_scratch3 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_26_r0 : BitVec 32 := 0#32
  let c0_i32_27_r0 : BitVec 32 := 0#32
  ![v1.toNat, 0, 0]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32 : BitVec 32 := 3#32
  let v2 : BitVec 32 := Scalar.shrsi v1 c3_i32
  let c16_i32_0 : BitVec 32 := 16#32
  let v3 : BitVec 32 := Scalar.muli v2 c16_i32_0
  let c0_i32_26_r1 : BitVec 32 := 0#32
  ![v3.toNat, 0]
@[reducible] def k0_t1_loop : Scf.Loop 32 :=
  let c0_i32_22 : BitVec 32 := 0#32
  let c16_i32_23 : BitVec 32 := 16#32
  let v175 : BitVec 32 := Scalar.addi c0_i32_22 c16_i32_23
  let c1_i32_24 : BitVec 32 := 1#32
  ⟨c0_i32_22, v175, c1_i32_24⟩
def k0_off3 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v177 : Index := Scalar.indexCast arg15
  let c0_27 : Index := 0#32
  ![v177.toNat, 0]
def k0_off4 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v210 : Index := Scalar.indexCast arg15
  let c16_37 : Index := 16#32
  ![v210.toNat, 16]
def k0_off5 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v243 : Index := Scalar.indexCast arg15
  let c32_47 : Index := 32#32
  ![v243.toNat, 32]
def k0_off6 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v276 : Index := Scalar.indexCast arg15
  let c48_57 : Index := 48#32
  ![v276.toNat, 48]
def k0_off7 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v309 : Index := Scalar.indexCast arg15
  let c64_67 : Index := 64#32
  ![v309.toNat, 64]
def k0_off8 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v342 : Index := Scalar.indexCast arg15
  let c80_77 : Index := 80#32
  ![v342.toNat, 80]
def k0_off9 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v375 : Index := Scalar.indexCast arg15
  let c96_87 : Index := 96#32
  ![v375.toNat, 96]
def k0_off10 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v408 : Index := Scalar.indexCast arg15
  let c112_97 : Index := 112#32
  ![v408.toNat, 112]
@[reducible] def k0_t2_loop : Scf.Loop 32 :=
  let c0_i32_147 : BitVec 32 := 0#32
  let c8_i32_148 : BitVec 32 := 8#32
  let v581 : BitVec 32 := Scalar.addi c0_i32_147 c8_i32_148
  let c1_i32_149 : BitVec 32 := 1#32
  ⟨c0_i32_147, v581, c1_i32_149⟩
def k0_off11 (k0_t2 : Fin k0_t2_loop.trips) : Fin 1 → Nat :=
  let c0_i32_147 : BitVec 32 := 0#32
  let c1_i32_149 : BitVec 32 := 1#32
  let arg16 : BitVec 32 := Scf.iv c0_i32_147 c1_i32_149 k0_t2
  let c16_i32_169 : BitVec 32 := 16#32
  let v695 : BitVec 32 := Scalar.muli arg16 c16_i32_169
  let v696 : Index := Scalar.indexCast v695
  ![v696.toNat]
@[reducible] def k0_t3_loop : Scf.Loop 32 :=
  let c0_i32_177 : BitVec 32 := 0#32
  let c8_i32_178 : BitVec 32 := 8#32
  let v703 : BitVec 32 := Scalar.addi c0_i32_177 c8_i32_178
  let c1_i32_179 : BitVec 32 := 1#32
  ⟨c0_i32_177, v703, c1_i32_179⟩
def k0_off12 (k0_t3 : Fin k0_t3_loop.trips) : Fin 1 → Nat :=
  let c0_i32_177 : BitVec 32 := 0#32
  let c1_i32_179 : BitVec 32 := 1#32
  let arg16 : BitVec 32 := Scf.iv c0_i32_177 c1_i32_179 k0_t3
  let c16_i32_201 : BitVec 32 := 16#32
  let v771 : BitVec 32 := Scalar.muli arg16 c16_i32_201
  let v772 : Index := Scalar.indexCast v771
  ![v772.toNat]
@[reducible] def k0_t4_loop : Scf.Loop 32 :=
  let c0_i32_189 : BitVec 32 := 0#32
  let c8_i32_190 : BitVec 32 := 8#32
  let v713 : BitVec 32 := Scalar.addi c0_i32_189 c8_i32_190
  let c1_i32_191 : BitVec 32 := 1#32
  ⟨c0_i32_189, v713, c1_i32_191⟩
def k0_off13 (k0_t4 : Fin k0_t4_loop.trips) : Fin 1 → Nat :=
  let c0_i32_189 : BitVec 32 := 0#32
  let c1_i32_191 : BitVec 32 := 1#32
  let arg16 : BitVec 32 := Scf.iv c0_i32_189 c1_i32_191 k0_t4
  let c16_i32_201 : BitVec 32 := 16#32
  let v771 : BitVec 32 := Scalar.muli arg16 c16_i32_201
  let v772 : Index := Scalar.indexCast v771
  ![v772.toNat]
def k0_off14 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v718 : Index := Scalar.indexCast arg15
  let c0_193 : Index := 0#32
  ![v718.toNat, 0]
def k0_off15 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v725 : Index := Scalar.indexCast arg15
  let c16_194 : Index := 16#32
  ![v725.toNat, 16]
def k0_off16 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v732 : Index := Scalar.indexCast arg15
  let c32_195 : Index := 32#32
  ![v732.toNat, 32]
def k0_off17 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v739 : Index := Scalar.indexCast arg15
  let c48_196 : Index := 48#32
  ![v739.toNat, 48]
def k0_off18 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v746 : Index := Scalar.indexCast arg15
  let c64_197 : Index := 64#32
  ![v746.toNat, 64]
def k0_off19 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v753 : Index := Scalar.indexCast arg15
  let c80_198 : Index := 80#32
  ![v753.toNat, 80]
def k0_off20 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v760 : Index := Scalar.indexCast arg15
  let c96_199 : Index := 96#32
  ![v760.toNat, 96]
def k0_off21 (k0_t1 : Fin k0_t1_loop.trips) : Fin 2 → Nat :=
  let c0_i32_22 : BitVec 32 := 0#32
  let c1_i32_24 : BitVec 32 := 1#32
  let arg15 : BitVec 32 := Scf.iv c0_i32_22 c1_i32_24 k0_t1
  let v767 : Index := Scalar.indexCast arg15
  let c112_200 : Index := 112#32
  ![v767.toNat, 112]
abbrev grid1 : Pipeline.Grid := ⟨1, ![24], ![false]⟩

@[reducible] def k1_t1_loop : Scf.Loop 32 :=
  let c0_i32_2 : BitVec 32 := 0#32
  let c128_i32 : BitVec 32 := 128#32
  let v7 : BitVec 32 := Scalar.addi c0_i32_2 c128_i32
  let c1_i32 : BitVec 32 := 1#32
  ⟨c0_i32_2, v7, c1_i32⟩
def k1_off1 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v26 : Index := Scalar.indexCast arg10
  let c0_14 : Index := 0#32
  ![v26.toNat, 0]
@[reducible] def k1_t2_loop : Scf.Loop 32 :=
  let c0_i32_15 : BitVec 32 := 0#32
  let c128_i32_16 : BitVec 32 := 128#32
  let v27 : BitVec 32 := Scalar.addi c0_i32_15 c128_i32_16
  let c1_i32_17 : BitVec 32 := 1#32
  ⟨c0_i32_15, v27, c1_i32_17⟩
def k1_off2 (k1_t2 : Fin k1_t2_loop.trips) : Fin 2 → Nat :=
  let c0_i32_15 : BitVec 32 := 0#32
  let c1_i32_17 : BitVec 32 := 1#32
  let arg10 : BitVec 32 := Scf.iv c0_i32_15 c1_i32_17 k1_t2
  let v37 : Index := Scalar.indexCast arg10
  let c0_26 : Index := 0#32
  ![v37.toNat, 0]
@[reducible] def k1_t3_loop : Scf.Loop 32 :=
  let c0_i32_20 : BitVec 32 := 0#32
  let c128_i32_21 : BitVec 32 := 128#32
  let v30 : BitVec 32 := Scalar.addi c0_i32_20 c128_i32_21
  let c1_i32_22 : BitVec 32 := 1#32
  ⟨c0_i32_20, v30, c1_i32_22⟩
def k1_off3 (k1_t3 : Fin k1_t3_loop.trips) : Fin 2 → Nat :=
  let c0_i32_20 : BitVec 32 := 0#32
  let c1_i32_22 : BitVec 32 := 1#32
  let arg10 : BitVec 32 := Scf.iv c0_i32_20 c1_i32_22 k1_t3
  let v37 : Index := Scalar.indexCast arg10
  let c0_26 : Index := 0#32
  ![v37.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg_half_log_two_pi" => some ((-((1 / 2) * (Real.log (2 * (13176795 / 4194304)))) : ℝ) : EReal)
  | _ => none
-- ==== ReferenceIdeal.lean ====
abbrev S4096x64 : Shape := ⟨2, ![4096, 64]⟩
abbrev S128x64 : Shape := ⟨2, ![128, 64]⟩
abbrev S128x1x1 : Shape := ⟨3, ![128, 1, 1]⟩
abbrev S_ : Shape := ⟨0, ![]⟩
abbrev S1x1 : Shape := ⟨2, ![1, 1]⟩
abbrev S1x1x1 : Shape := ⟨3, ![1, 1, 1]⟩
abbrev S1x4096x64 : Shape := ⟨3, ![1, 4096, 64]⟩
abbrev S128x1x64 : Shape := ⟨3, ![128, 1, 64]⟩
abbrev S128x4096x64 : Shape := ⟨3, ![128, 4096, 64]⟩
abbrev S64x4096 : Shape := ⟨2, ![64, 4096]⟩

abbrev nBuf : Space → Nat
  | .hbm => 67
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S128x64, .f32⟩
  | .hbm, ⟨2, _⟩ => ⟨S128x64, .f32⟩
  | .hbm, ⟨3, _⟩ => ⟨S128x1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S1x1x1, .f32⟩
  | .hbm, ⟨10, _⟩ => ⟨S128x1x1, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S1x1, .f32⟩
  | .hbm, ⟨15, _⟩ => ⟨S1x1x1, .f32⟩
  | .hbm, ⟨16, _⟩ => ⟨S128x1x1, .f32⟩
  | .hbm, ⟨17, _⟩ => ⟨S128x1x1, .f32⟩
  | .hbm, ⟨18, _⟩ => ⟨S1x4096x64, .f32⟩
  | .hbm, ⟨19, _⟩ => ⟨S128x1x64, .f32⟩
  | .hbm, ⟨20, _⟩ => ⟨S128x1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128x1x64, .f32⟩
  | .hbm, ⟨29, _⟩ => ⟨S128x1x64, .f32⟩
  | .hbm, ⟨30, _⟩ => ⟨S128x1x64, .f32⟩
  | .hbm, ⟨31, _⟩ => ⟨S128x1x64, .f32⟩
  | .hbm, ⟨32, _⟩ => ⟨S128x1x64, .f32⟩
  | .hbm, ⟨33, _⟩ => ⟨S128x1x64, .f32⟩
  | .hbm, ⟨34, _⟩ => ⟨S_, .f32⟩
  | .hbm, ⟨35, _⟩ => ⟨S128x1x64, .f32⟩
  | .hbm, ⟨36, _⟩ => ⟨S128x1x64, .f32⟩
  | .hbm, ⟨37, _⟩ => ⟨S128x4096x64, .f32⟩
  | .hbm, ⟨38, _⟩ => ⟨S128x4096x64, .f32⟩
  | .hbm, ⟨39, _⟩ => ⟨S128x4096x64, .f32⟩
  | .hbm, ⟨40, _⟩ => ⟨S128x4096x64, .f32⟩
  | .hbm, ⟨41, _⟩ => ⟨S128x4096x64, .f32⟩
  | .hbm, ⟨42, _⟩ => ⟨S128x4096x64, .f32⟩
  | .hbm, ⟨43, _⟩ => ⟨S128x4096x64, .f32⟩
  | .hbm, ⟨44, _⟩ => ⟨S128x4096x64, .f32⟩
  | .hbm, ⟨45, _⟩ => ⟨S128x1x1, .f32⟩
  | .hbm, ⟨46, _⟩ => ⟨S128x4096x64, .f32⟩
  | .hbm, ⟨47, _⟩ => ⟨S128x4096x64, .f32⟩
  | .hbm, ⟨48, _⟩ => ⟨S_, .f32⟩
  | .hbm, ⟨49, _⟩ => ⟨S4096x64, .f32⟩
  | .hbm, ⟨50, _⟩ => ⟨S4096x64, .f32⟩
  | .hbm, ⟨51, _⟩ => ⟨S_, .f32⟩
  | .hbm, ⟨52, _⟩ => ⟨S4096x64, .f32⟩
  | .hbm, ⟨53, _⟩ => ⟨S4096x64, .i1⟩
  | .hbm, ⟨54, _⟩ => ⟨S_, .f32⟩
  | .hbm, ⟨55, _⟩ => ⟨S_, .f32⟩
  | .hbm, ⟨56, _⟩ => ⟨S4096x64, .f32⟩
  | .hbm, ⟨57, _⟩ => ⟨S4096x64, .f32⟩
  | .hbm, ⟨58, _⟩ => ⟨S1x4096x64, .f32⟩
  | .hbm, ⟨59, _⟩ => ⟨S128x4096x64, .f32⟩
  | .hbm, ⟨60, _⟩ => ⟨S128x4096x64, .f32⟩
  | .hbm, ⟨61, _⟩ => ⟨S128x4096x64, .f32⟩
  | .hbm, ⟨62, _⟩ => ⟨S_, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S64x4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Trips.lean ====
/- The three innermost loops of the vector-subcore kernel: each trip reads one sixteen-lane chunk of the coefficient
   tables and folds its sixteen entries into eight accumulators. Here the trip is written as a small program over a
   pure step, equal to the printed region by unfolding. -/
module

public import proofs.«01_k».proof.Proof.Gen.KernelIdeal
public import proofs.«01_k».proof.Proof.Gen.KernelIdeal.Skeleton

@[expose] public section

set_option maxRecDepth 65536
set_option synthInstance.maxSize 4096

noncomputable section

namespace Cert.Proof.Trips

open Cert.KernelIdeal Cert.KernelIdeal.Gen
open Idealize.ShloMosaic Idealize.SL.Sem

variable {F : FTy → Type} [FloatOps F] [Named F]

/-- Sixteen lanes. -/
abbrev V16 (F : FTy → Type) : Type := FVec F S16 .f32
/-- Eight of them: one per sixteen columns of a tile's row. -/
abbrev V8 (F : FTy → Type) : Type := V16 F × V16 F × V16 F × V16 F × V16 F × V16 F × V16 F × V16 F

/-- Entry `j` of a chunk, as the kernel extracts it. -/
def lane (j : Nat) (h : S16.Slices ![j] S1) (v : V16 F) : F .f32 :=
  extractAt ![0] (extractStridedSlice S1 ![j] (shapeCast S16 v shapeCasts_S16_S16) h) inpos_S1_p0

/-- The exponent of one entry: `(a·z² + c·z) + d` in every lane. -/
def expo (j : Nat) (h : S16.Slices ![j] S1) (a c d z q : V16 F) : V16 F :=
  addf (addf (mulf (broadcast S16 (lane j h a)) q) (mulf (broadcast S16 (lane j h c)) z)) (broadcast S16 (lane j h d))

/-- One chunk added to a sum of exponentials. -/
def sumTrip (a c d z q s : V16 F) : V16 F :=
  have s0 := addf s (exp (expo 0 slices_S16_o0_S1 a c d z q))
  have s1 := addf s0 (exp (expo 1 slices_S16_o1_S1 a c d z q))
  have s2 := addf s1 (exp (expo 2 slices_S16_o2_S1 a c d z q))
  have s3 := addf s2 (exp (expo 3 slices_S16_o3_S1 a c d z q))
  have s4 := addf s3 (exp (expo 4 slices_S16_o4_S1 a c d z q))
  have s5 := addf s4 (exp (expo 5 slices_S16_o5_S1 a c d z q))
  have s6 := addf s5 (exp (expo 6 slices_S16_o6_S1 a c d z q))
  have s7 := addf s6 (exp (expo 7 slices_S16_o7_S1 a c d z q))
  have s8 := addf s7 (exp (expo 8 slices_S16_o8_S1 a c d z q))
  have s9 := addf s8 (exp (expo 9 slices_S16_o9_S1 a c d z q))
  have s10 := addf s9 (exp (expo 10 slices_S16_o10_S1 a c d z q))
  have s11 := addf s10 (exp (expo 11 slices_S16_o11_S1 a c d z q))
  have s12 := addf s11 (exp (expo 12 slices_S16_o12_S1 a c d z q))
  have s13 := addf s12 (exp (expo 13 slices_S16_o13_S1 a c d z q))
  have s14 := addf s13 (exp (expo 14 slices_S16_o14_S1 a c d z q))
  have s15 := addf s14 (exp (expo 15 slices_S16_o15_S1 a c d z q))
  s15

/-- One chunk taken into a running maximum of exponents. -/
def maxTrip (a c d z q s : V16 F) : V16 F :=
  have s0 := maximumf s (expo 0 slices_S16_o0_S1 a c d z q)
  have s1 := maximumf s0 (expo 1 slices_S16_o1_S1 a c d z q)
  have s2 := maximumf s1 (expo 2 slices_S16_o2_S1 a c d z q)
  have s3 := maximumf s2 (expo 3 slices_S16_o3_S1 a c d z q)
  have s4 := maximumf s3 (expo 4 slices_S16_o4_S1 a c d z q)
  have s5 := maximumf s4 (expo 5 slices_S16_o5_S1 a c d z q)
  have s6 := maximumf s5 (expo 6 slices_S16_o6_S1 a c d z q)
  have s7 := maximumf s6 (expo 7 slices_S16_o7_S1 a c d z q)
  have s8 := maximumf s7 (expo 8 slices_S16_o8_S1 a c d z q)
  have s9 := maximumf s8 (expo 9 slices_S16_o9_S1 a c d z q)
  have s10 := maximumf s9 (expo 10 slices_S16_o10_S1 a c d z q)
  have s11 := maximumf s10 (expo 11 slices_S16_o11_S1 a c d z q)
  have s12 := maximumf s11 (expo 12 slices_S16_o12_S1 a c d z q)
  have s13 := maximumf s12 (expo 13 slices_S16_o13_S1 a c d z q)
  have s14 := maximumf s13 (expo 14 slices_S16_o14_S1 a c d z q)
  have s15 := maximumf s14 (expo 15 slices_S16_o15_S1 a c d z q)
  s15

/-- One chunk added to a sum of exponentials below a maximum `m`. -/
def sumTripM (a c d z q m s : V16 F) : V16 F :=
  have s0 := addf s (exp (subf (expo 0 slices_S16_o0_S1 a c d z q) m))
  have s1 := addf s0 (exp (subf (expo 1 slices_S16_o1_S1 a c d z q) m))
  have s2 := addf s1 (exp (subf (expo 2 slices_S16_o2_S1 a c d z q) m))
  have s3 := addf s2 (exp (subf (expo 3 slices_S16_o3_S1 a c d z q) m))
  have s4 := addf s3 (exp (subf (expo 4 slices_S16_o4_S1 a c d z q) m))
  have s5 := addf s4 (exp (subf (expo 5 slices_S16_o5_S1 a c d z q) m))
  have s6 := addf s5 (exp (subf (expo 6 slices_S16_o6_S1 a c d z q) m))
  have s7 := addf s6 (exp (subf (expo 7 slices_S16_o7_S1 a c d z q) m))
  have s8 := addf s7 (exp (subf (expo 8 slices_S16_o8_S1 a c d z q) m))
  have s9 := addf s8 (exp (subf (expo 9 slices_S16_o9_S1 a c d z q) m))
  have s10 := addf s9 (exp (subf (expo 10 slices_S16_o10_S1 a c d z q) m))
  have s11 := addf s10 (exp (subf (expo 11 slices_S16_o11_S1 a c d z q) m))
  have s12 := addf s11 (exp (subf (expo 12 slices_S16_o12_S1 a c d z q) m))
  have s13 := addf s12 (exp (subf (expo 13 slices_S16_o13_S1 a c d z q) m))
  have s14 := addf s13 (exp (subf (expo 14 slices_S16_o14_S1 a c d z q) m))
  have s15 := addf s14 (exp (subf (expo 15 slices_S16_o15_S1 a c d z q) m))
  s15

/-- The three trips over the eight accumulators. -/
def sumTrip8 (a c d : V16 F) (z q s : V8 F) : V8 F := (sumTrip a c d z.1 q.1 s.1, sumTrip a c d z.2.1 q.2.1 s.2.1, sumTrip a c d z.2.2.1 q.2.2.1 s.2.2.1, sumTrip a c d z.2.2.2.1 q.2.2.2.1 s.2.2.2.1, sumTrip a c d z.2.2.2.2.1 q.2.2.2.2.1 s.2.2.2.2.1, sumTrip a c d z.2.2.2.2.2.1 q.2.2.2.2.2.1 s.2.2.2.2.2.1, sumTrip a c d z.2.2.2.2.2.2.1 q.2.2.2.2.2.2.1 s.2.2.2.2.2.2.1, sumTrip a c d z.2.2.2.2.2.2.2 q.2.2.2.2.2.2.2 s.2.2.2.2.2.2.2)
@[inherit_doc sumTrip8] def maxTrip8 (a c d : V16 F) (z q s : V8 F) : V8 F := (maxTrip a c d z.1 q.1 s.1, maxTrip a c d z.2.1 q.2.1 s.2.1, maxTrip a c d z.2.2.1 q.2.2.1 s.2.2.1, maxTrip a c d z.2.2.2.1 q.2.2.2.1 s.2.2.2.1, maxTrip a c d z.2.2.2.2.1 q.2.2.2.2.1 s.2.2.2.2.1, maxTrip a c d z.2.2.2.2.2.1 q.2.2.2.2.2.1 s.2.2.2.2.2.1, maxTrip a c d z.2.2.2.2.2.2.1 q.2.2.2.2.2.2.1 s.2.2.2.2.2.2.1, maxTrip a c d z.2.2.2.2.2.2.2 q.2.2.2.2.2.2.2 s.2.2.2.2.2.2.2)
@[inherit_doc sumTrip8] def sumTripM8 (a c d : V16 F) (z q m s : V8 F) : V8 F := (sumTripM a c d z.1 q.1 m.1 s.1, sumTripM a c d z.2.1 q.2.1 m.2.1 s.2.1, sumTripM a c d z.2.2.1 q.2.2.1 m.2.2.1 s.2.2.1, sumTripM a c d z.2.2.2.1 q.2.2.2.1 m.2.2.2.1 s.2.2.2.1, sumTripM a c d z.2.2.2.2.1 q.2.2.2.2.1 m.2.2.2.2.1 s.2.2.2.2.1, sumTripM a c d z.2.2.2.2.2.1 q.2.2.2.2.2.1 m.2.2.2.2.2.1 s.2.2.2.2.2.1, sumTripM a c d z.2.2.2.2.2.2.1 q.2.2.2.2.2.2.1 m.2.2.2.2.2.2.1 s.2.2.2.2.2.2.1, sumTripM a c d z.2.2.2.2.2.2.2 q.2.2.2.2.2.2.2 m.2.2.2.2.2.2.2 s.2.2.2.2.2.2.2)

section Bodies
variable (i : grid0.Coords) (arg2 : Memref sig .scVector .hbm S32x16x128 .f32) (harg2 : arg2.IsWhole) (arg3 : Memref sig .scVector .hbm S64x128 .f32) (harg3 : arg3.IsWhole) (arg4 : Memref sig .scVector .hbm S64x128 .f32) (harg4 : arg4.IsWhole) (arg5 : Memref sig .scVector .hbm S128 .f32) (harg5 : arg5.IsWhole) (arg6 : Memref sig .scVector .hbm S32x16x128 .f32) (harg6 : arg6.IsWhole) (arg7 : Memref sig .scVector .vmem S16x128 .f32) (harg7 : arg7.IsWhole) (arg8 : Memref sig .scVector .vmem S16x128 .f32) (harg8 : arg8.IsWhole) (arg9 : Memref sig .scVector .vmem S16x128 .f32) (harg9 : arg9.IsWhole) (arg10 : Memref sig .scVector .vmem S16x128 .f32) (harg10 : arg10.IsWhole) (arg11 : Memref sig .scVector .vmem S128 .f32) (harg11 : arg11.IsWhole) (arg12 : Memref sig .scVector .vmem S128 .f32) (harg12 : arg12.IsWhole) (arg13 : Memref sig .scVector .vmem S128 .f32) (harg13 : arg13.IsWhole) (arg14 : Memref sig .scVector .vmem S128 .f32) (harg14 : arg14.IsWhole) (v176_r0 : DmaSems sig S_) (v176_r1 : DmaSems sig S_) (v176_r2 : DmaSems sig S_) (v176_r3 : DmaSems sig S_) (v176_r4 : DmaSems sig S_)
variable (v543 : FVec F S16 .f32) (v546 : FVec F S16 .f32) (v549 : FVec F S16 .f32) (v552 : FVec F S16 .f32) (v555 : FVec F S16 .f32) (v558 : FVec F S16 .f32) (v561 : FVec F S16 .f32) (v564 : FVec F S16 .f32) (v565 : FVec F S16 .f32) (v566 : FVec F S16 .f32) (v567 : FVec F S16 .f32) (v568 : FVec F S16 .f32) (v569 : FVec F S16 .f32) (v570 : FVec F S16 .f32) (v571 : FVec F S16 .f32) (v572 : FVec F S16 .f32)

/-- The region of loop `t2` as three loads and a pure trip. -/
def sumProg (z q : V8 F) (k : Fin k0_t2_loop.trips) (s : V8 F) : Prog (TpuEff nD τ sig (Elt F) Λ₀ (.scVector ((i 0).castLE hcore0) ((i 1).castLE hsub0))) (V8 F) := do
  let a : Vec F S16 .f32 ← Prog.lift (.load arg11 (Rect.unit (s := S128) (k0_off11 k) S16.size (k0_off11_inb k)).toLoadRect (View.loadsAt_vmem h_S16))
  let c : Vec F S16 .f32 ← Prog.lift (.load arg12 (Rect.unit (s := S128) (k0_off11 k) S16.size (k0_off11_inb k)).toLoadRect (View.loadsAt_vmem h_S16))
  let d : Vec F S16 .f32 ← Prog.lift (.load arg13 (Rect.unit (s := S128) (k0_off11 k) S16.size (k0_off11_inb k)).toLoadRect (View.loadsAt_vmem h_S16))
  pure (sumTrip8 a c d z q s)

/-- The region of loop `t3` as three loads and a pure trip. -/
def maxProg (z q : V8 F) (k : Fin k0_t3_loop.trips) (s : V8 F) : Prog (TpuEff nD τ sig (Elt F) Λ₀ (.scVector ((i 0).castLE hcore0) ((i 1).castLE hsub0))) (V8 F) := do
  let a : Vec F S16 .f32 ← Prog.lift (.load arg11 (Rect.unit (s := S128) (k0_off12 k) S16.size (k0_off12_inb k)).toLoadRect (View.loadsAt_vmem h_S16))
  let c : Vec F S16 .f32 ← Prog.lift (.load arg12 (Rect.unit (s := S128) (k0_off12 k) S16.size (k0_off12_inb k)).toLoadRect (View.loadsAt_vmem h_S16))
  let d : Vec F S16 .f32 ← Prog.lift (.load arg13 (Rect.unit (s := S128) (k0_off12 k) S16.size (k0_off12_inb k)).toLoadRect (View.loadsAt_vmem h_S16))
  pure (maxTrip8 a c d z q s)

/-- The region of loop `t4` as three loads and a pure trip. -/
def sumMProg (z q m : V8 F) (k : Fin k0_t4_loop.trips) (s : V8 F) : Prog (TpuEff nD τ sig (Elt F) Λ₀ (.scVector ((i 0).castLE hcore0) ((i 1).castLE hsub0))) (V8 F) := do
  let a : Vec F S16 .f32 ← Prog.lift (.load arg11 (Rect.unit (s := S128) (k0_off13 k) S16.size (k0_off13_inb k)).toLoadRect (View.loadsAt_vmem h_S16))
  let c : Vec F S16 .f32 ← Prog.lift (.load arg12 (Rect.unit (s := S128) (k0_off13 k) S16.size (k0_off13_inb k)).toLoadRect (View.loadsAt_vmem h_S16))
  let d : Vec F S16 .f32 ← Prog.lift (.load arg13 (Rect.unit (s := S128) (k0_off13 k) S16.size (k0_off13_inb k)).toLoadRect (View.loadsAt_vmem h_S16))
  pure (sumTripM8 a c d z q m s)

/-- The first loop's region is its small program. -/
theorem t2_body_eq : k0_t2_body i arg2 harg2 arg3 harg3 arg4 harg4 arg5 harg5 arg6 harg6 arg7 harg7 arg8 harg8 arg9 harg9 arg10 harg10 arg11 harg11 arg12 harg12 arg13 harg13 arg14 harg14 v176_r0 v176_r1 v176_r2 v176_r3 v176_r4 v543 v546 v549 v552 v555 v558 v561 v564 v565 v566 v567 v568 v569
    = sumProg i arg11 arg12 arg13 (v543, v546, v549, v552, v555, v558, v561, v564) (v565, v566, v567, v568, v569, k0_pay733 v558, k0_pay734 v561, k0_pay735 v564) := rfl

/-- The second loop's region is its small program. -/
theorem t3_body_eq (k0_t1 : Fin k0_t1_loop.trips) (arg15 : BitVec 32) (v492 : FVec F S16 .f32) : k0_t3_body i arg2 harg2 arg3 harg3 arg4 harg4 arg5 harg5 arg6 harg6 arg7 harg7 arg8 harg8 arg9 harg9 arg10 harg10 arg11 harg11 arg12 harg12 arg13 harg13 arg14 harg14 v176_r0 v176_r1 v176_r2 v176_r3 v176_r4 k0_t1 arg15 v492 v543 v546 v549 v552 v555 v558 v561 v564 v565 v566 v567 v568 v569 v570 v571 v572
    = maxProg i arg11 arg12 arg13 (v543, v546, v549, v552, v555, v558, v561, v564) (v565, v566, v567, v568, v569, v570, v571, v572) := rfl

/-- The third loop's region is its small program. -/
theorem t4_body_eq (k0_t1 : Fin k0_t1_loop.trips) (arg15 : BitVec 32) (v492 : FVec F S16 .f32) (m0 : FVec F S16 .f32) (m1 : FVec F S16 .f32) (m2 : FVec F S16 .f32) (m3 : FVec F S16 .f32) (m4 : FVec F S16 .f32) (m5 : FVec F S16 .f32) (m6 : FVec F S16 .f32) (m7 : FVec F S16 .f32) : k0_t4_body i arg2 harg2 arg3 harg3 arg4 harg4 arg5 harg5 arg6 harg6 arg7 harg7 arg8 harg8 arg9 harg9 arg10 harg10 arg11 harg11 arg12 harg12 arg13 harg13 arg14 harg14 v176_r0 v176_r1 v176_r2 v176_r3 v176_r4 k0_t1 arg15 v492 v543 v546 v549 v552 v555 v558 v561 v564 v565 v566 v567 v568 v569 v570 v571 v572 m0 m1 m2 m3 m4 m5 m6 m7
    = sumMProg i arg11 arg12 arg13 (v543, v546, v549, v552, v555, v558, v561, v564) (v565, v566, v567, v568, v569, v570, v571, v572) (m0, m1, m2, m3, m4, m5, m6, m7) := rfl

end Bodies

end Cert.Proof.Trips
-- ==== Proof.Base.lean ====
/- The program as the launch sees it: its call table, its resource algebra and the names of the buffers the
   vector-subcore kernel uses. -/
module

public import proofs.«01_k».proof.Proof.Trips
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes

@[expose] public section

set_option maxRecDepth 16384

noncomputable section

namespace Cert.Proof.Mix

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the grid pipeline's rounds, the transfers' counters -/

abbrev UH : Type := URounds (GSem nD τ sig) ℕ
abbrev UP : Type := URounds (GSem nD τ sig) Unit
abbrev UU : Type := UH × (UP × Counters)

/-- The assertions' algebra. -/
abbrev MM (F : FTy → Type) : Type _ := MT nD τ sig (HIx 1) (Elt F) ℕ UU ℕ

/-! ## The buffers -/

abbrev zH : Memref sig .scVector .hbm S32x16x128 .f32 := Memref.whole main_v5_scv
abbrev muH : Memref sig .scVector .hbm S64x128 .f32 := Memref.whole main_v13_scv
abbrev lvH : Memref sig .scVector .hbm S64x128 .f32 := Memref.whole main_v14_scv
abbrev wH : Memref sig .scVector .hbm S128 .f32 := Memref.whole main_v15_scv
abbrev oH : Memref sig .scVector .hbm S32x16x128 .f32 := Memref.whole main_v16_scv
abbrev zB : Memref sig .scVector .vmem S16x128 .f32 := Memref.whole cc0_scratch0
abbrev muB : Memref sig .scVector .vmem S16x128 .f32 := Memref.whole cc0_scratch1
abbrev lvB : Memref sig .scVector .vmem S16x128 .f32 := Memref.whole cc0_scratch2
abbrev oB : Memref sig .scVector .vmem S16x128 .f32 := Memref.whole cc0_scratch3
abbrev aB : Memref sig .scVector .vmem S128 .f32 := Memref.whole cc0_scratch4
abbrev cB : Memref sig .scVector .vmem S128 .f32 := Memref.whole cc0_scratch5
abbrev dB : Memref sig .scVector .vmem S128 .f32 := Memref.whole cc0_scratch6
abbrev wB : Memref sig .scVector .vmem S128 .f32 := Memref.whole cc0_scratch7

abbrev cV (L : grid0.Coords) : Fin τ.nSC := (L 0).castLE hcore0
abbrev jV (L : grid0.Coords) : Fin τ.nSub := (L 1).castLE hsub0
/-- The vector subcore's thread. -/
abbrev thr (d : Dev nD) (L : grid0.Coords) : Thread nD τ := V d (cV L) (jV L)

end Cert.Proof.Mix
-- ==== Proof.Model.lean ====
/- What one vector subcore computes, as functions of the sixteen-lane chunks it loads: the softmax weights' log-sum,
   the coefficient tables of one row, and the row's eight output chunks. -/
module

public import proofs.«01_k».proof.Proof.Trips

@[expose] public section

set_option maxRecDepth 65536

noncomputable section

namespace Cert.Proof.Mix

open Cert.KernelIdeal Cert.KernelIdeal.Gen Cert.Proof.Trips
open Idealize.ShloMosaic

variable {F : FTy → Type} [FloatOps F] [Named F]

/-- A chunk cast to its own shape, as the kernel spells it around loads and stores. -/
def c16 (v : V16 F) : V16 F := shapeCast S16 v shapeCasts_S16_S16

/-- A row's chunk without its unit axis. -/
def r16 (v : FVec F S1x16 .f32) : V16 F := shapeCast S16 v shapeCasts_S1x16_S16

/-- A word in every lane. -/
def k16 (b : BitVec 32) : V16 F := broadcast S16 (Scalar.ofBits .f32 b)

/-! ## The lane shuffles -/

/-- Every lane exchanged with the one whose number differs in bit 1. -/
def shuf1 (v : V16 F) : V16 F :=
  select (cmpi .eq (andi (iota .scVector S16 32 [0] iota_S16_d0_w32_scVector) (broadcast S16 1#32)) (broadcast S16 0#32))
    (concatenate S16 0 [⟨S15, extractStridedSlice S15 ![1] v slices_S16_o1_S15⟩, ⟨S1, extractStridedSlice S1 ![0] v slices_S16_o0_S1⟩] concatenates_S15_S1_S16_d0)
    (concatenate S16 0 [⟨S1, extractStridedSlice S1 ![15] v slices_S16_o15_S1⟩, ⟨S15, extractStridedSlice S15 ![0] v slices_S16_o0_S15⟩] concatenates_S1_S15_S16_d0)

/-- Every lane exchanged with the one whose number differs in bit 2. -/
def shuf2 (v : V16 F) : V16 F :=
  select (cmpi .eq (andi (iota .scVector S16 32 [0] iota_S16_d0_w32_scVector) (broadcast S16 2#32)) (broadcast S16 0#32))
    (concatenate S16 0 [⟨S14, extractStridedSlice S14 ![2] v slices_S16_o2_S14⟩, ⟨S2, extractStridedSlice S2 ![0] v slices_S16_o0_S2⟩] concatenates_S14_S2_S16_d0)
    (concatenate S16 0 [⟨S2, extractStridedSlice S2 ![14] v slices_S16_o14_S2⟩, ⟨S14, extractStridedSlice S14 ![0] v slices_S16_o0_S14⟩] concatenates_S2_S14_S16_d0)

/-- Every lane exchanged with the one whose number differs in bit 4. -/
def shuf4 (v : V16 F) : V16 F :=
  select (cmpi .eq (andi (iota .scVector S16 32 [0] iota_S16_d0_w32_scVector) (broadcast S16 4#32)) (broadcast S16 0#32))
    (concatenate S16 0 [⟨S12, extractStridedSlice S12 ![4] v slices_S16_o4_S12⟩, ⟨S4, extractStridedSlice S4 ![0] v slices_S16_o0_S4⟩] concatenates_S12_S4_S16_d0)
    (concatenate S16 0 [⟨S4, extractStridedSlice S4 ![12] v slices_S16_o12_S4⟩, ⟨S12, extractStridedSlice S12 ![0] v slices_S16_o0_S12⟩] concatenates_S4_S12_S16_d0)

/-- Every lane exchanged with the one whose number differs in bit 8. -/
def shuf8 (v : V16 F) : V16 F :=
  select (cmpi .eq (andi (iota .scVector S16 32 [0] iota_S16_d0_w32_scVector) (broadcast S16 8#32)) (broadcast S16 0#32))
    (concatenate S16 0 [⟨S8, extractStridedSlice S8 ![8] v slices_S16_o8_S8⟩, ⟨S8, extractStridedSlice S8 ![0] v slices_S16_o0_S8⟩] concatenates_S8_S8_S16_d0)
    (concatenate S16 0 [⟨S8, extractStridedSlice S8 ![8] v slices_S16_o8_S8⟩, ⟨S8, extractStridedSlice S8 ![0] v slices_S16_o0_S8⟩] concatenates_S8_S8_S16_d0)

/-- A lane-wise operation folded over all sixteen lanes, the result in every lane. -/
def bfly (op : V16 F → V16 F → V16 F) (v : V16 F) : V16 F :=
  have v1 := op v (shuf1 v)
  have v2 := op v1 (shuf2 v1)
  have v3 := op v2 (shuf4 v2)
  op v3 (shuf8 v3)

/-! ## The weights -/

/-- The largest weight, in every lane. -/
def wmaxV (w : Fin 8 → V16 F) : V16 F :=
  bfly maximumf (maximumf (maximumf (maximumf (maximumf (maximumf (maximumf (maximumf (c16 (w 0)) (c16 (w 1))) (c16 (w 2))) (c16 (w 3))) (c16 (w 4))) (c16 (w 5))) (c16 (w 6))) (c16 (w 7)))

/-- One chunk of weights' exponentials below the largest. -/
def wexp (w : Fin 8 → V16 F) (c : Fin 8) : V16 F := exp (subf (c16 (w c)) (wmaxV w))

/-- The logarithm of the sum of the weights' exponentials, in every lane. -/
def lseV (w : Fin 8 → V16 F) : V16 F :=
  addf (wmaxV w) (log (bfly addf (addf (addf (addf (addf (addf (addf (addf (addf (k16 0x00000000#32) (wexp w 0)) (wexp w 1)) (wexp w 2)) (wexp w 3)) (wexp w 4)) (wexp w 5)) (wexp w 6)) (wexp w 7))))

/-! ## One row's tables -/

section Row
variable (lse : V16 F) (w mu lv z : Fin 8 → V16 F)

/-- The precisions. -/
def precV (c : Fin 8) : V16 F := exp (subf (k16 0x00000000#32) (lv c))
/-- The quadratic coefficients. -/
def aV (c : Fin 8) : V16 F := mulf (k16 0xBF000000#32) (precV lv c)
/-- The linear coefficients. -/
def cV8 (c : Fin 8) : V16 F := mulf (precV lv c) (mu c)
/-- The components' log weights and normalisations. -/
def pkV (c : Fin 8) : V16 F :=
  addf (subf (broadcast S16 (Named.named κ "neg_half_log_two_pi" 0xBF6B3F8E#32)) (mulf (k16 0x3F000000#32) (lv c))) (subf (c16 (w c)) lse)
/-- The constant coefficients before the shift. -/
def dV0 (c : Fin 8) : V16 F := addf (pkV lse w lv c) (mulf (aV lv c) (mulf (mu c) (mu c)))
/-- The shift: the largest log weight, in every lane. -/
def m0V : V16 F :=
  bfly maximumf (maximumf (maximumf (maximumf (maximumf (maximumf (maximumf (maximumf (maximumf (k16 0xFF61B1E6#32) (pkV lse w lv 0)) (pkV lse w lv 1)) (pkV lse w lv 2)) (pkV lse w lv 3))
    (pkV lse w lv 4)) (pkV lse w lv 5)) (pkV lse w lv 6)) (pkV lse w lv 7))
/-- The constant coefficients. -/
def dV (c : Fin 8) : V16 F := subf (c16 (c16 (dV0 lse w mu lv c))) (m0V lse w lv)

/-! ## The three folds over the tables -/

/-- A fold over the eight chunks, the first `n` of them done. -/
def iter8 {α : Type} (f : Fin 8 → α → α) (s : α) : Nat → α
  | 0 => s
  | n + 1 => if h : n < 8 then f ⟨n, h⟩ (iter8 f s n) else iter8 f s n

/-- Eight chunks as a tuple. -/
def tup (x : Fin 8 → V16 F) : V8 F := (x 0, x 1, x 2, x 3, x 4, x 5, x 6, x 7)
/-- A tuple's entry. -/
def nth (s : V8 F) : Fin 8 → V16 F
  | 0 => s.1 | 1 => s.2.1 | 2 => s.2.2.1 | 3 => s.2.2.2.1 | 4 => s.2.2.2.2.1 | 5 => s.2.2.2.2.2.1 | 6 => s.2.2.2.2.2.2.1 | 7 => s.2.2.2.2.2.2.2

/-- The squares. -/
def sqV (c : Fin 8) : V16 F := mulf (z c) (z c)

/-- The tables as the kernel stores them and loads them back. -/
def aT (c : Fin 8) : V16 F := c16 (aV lv c)
@[inherit_doc aT] def cT (c : Fin 8) : V16 F := c16 (cV8 mu lv c)
@[inherit_doc aT] def dT (c : Fin 8) : V16 F := c16 (dV lse w mu lv c)

/-- The sums of exponentials after `n` chunks. -/
def sumsAt (n : Nat) : V8 F :=
  iter8 (fun c s => sumTrip8 (aT lv c) (cT mu lv c) (dT lse w mu lv c) (tup z) (tup (sqV z)) s) (tup fun _ => k16 0x00000000#32) n
/-- The running maxima after `n` chunks. -/
def maxsAt (n : Nat) : V8 F :=
  iter8 (fun c s => maxTrip8 (aT lv c) (cT mu lv c) (dT lse w mu lv c) (tup z) (tup (sqV z)) s) (tup fun _ => k16 0xFF61B1E6#32) n
/-- The shifted sums after `n` chunks. -/
def sumsMAt (n : Nat) : V8 F :=
  iter8 (fun c s => sumTripM8 (aT lv c) (cT mu lv c) (dT lse w mu lv c) (tup z) (tup (sqV z)) (maxsAt lse w mu lv z 8) s) (tup fun _ => k16 0x00000000#32) n

/-- The smallest of a row's sums, as the kernel extracts it. -/
def sminS (s : V8 F) : F .f32 :=
  extractAt ![0] (extractStridedSlice S1 ![0] (bfly minimumf (minimumf (minimumf (minimumf (minimumf (minimumf (minimumf (minimumf s.1 s.2.1) s.2.2.1) s.2.2.2.1) s.2.2.2.2.1) s.2.2.2.2.2.1) s.2.2.2.2.2.2.1) s.2.2.2.2.2.2.2)) slices_S16_o0_S1) inpos_S1_p0

/-- Whether the row's sums may have vanished. -/
def badS : BitVec 1 :=
  Scalar.cmpi .ne (Scalar.extui (Scalar.cmpf .olt (sminS (sumsAt lse w mu lv z 8)) (Scalar.ofBits .f32 0x15F79688#32))) 0#32

/-- One output chunk by the single pass. -/
def okV (c : Fin 8) : V16 F := addf (log (nth (sumsAt lse w mu lv z 8) c)) (m0V lse w lv)
/-- One output chunk by the two passes. -/
def redoV (c : Fin 8) : V16 F := addf (addf (nth (maxsAt lse w mu lv z 8) c) (log (nth (sumsMAt lse w mu lv z 8) c))) (m0V lse w lv)
/-- One output chunk. -/
def outV (c : Fin 8) : V16 F := if badS lse w mu lv z = 1#1 then redoV lse w mu lv z c else okV lse w mu lv z c

end Row

end Cert.Proof.Mix
-- ==== Proof.Chunks.lean ====
/- Reading and writing the kernel's tables by sixteen-lane chunks. -/
module

public import proofs.«01_k».proof.Proof.Base
public import proofs.«01_k».proof.Proof.Model
public import Idealize.ShloMosaic.Lib.ValueIdxCore
public import Idealize.ShloMosaic.Lib.Pipeline.Value

@[expose] public section

set_option maxRecDepth 16384

noncomputable section

namespace Cert.Proof.Mix

open Cert.KernelIdeal Cert.KernelIdeal.Gen Cert.Proof.Trips
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

open Idealize.ShloMosaic.ValueIdx (ix1 ix2 ix3)

/-! ## Places -/

/-- Place `n` of a table of 128. -/
abbrev p128 (n : Fin 128) : S128.Idx := ix1 n
/-- Row `r`, column `n` of a tile's block. -/
abbrev pRow (r : Fin 16) (n : Fin 128) : S16x128.Idx := ix2 r n
/-- Lane `i` of chunk `c`. -/
def at16 (c : Fin 8) (i : Fin 16) : Fin 128 := ⟨16 * c.val + i.val, by omega⟩
/-- A lane's number. -/
def ln (i : S16.Idx) : Fin 16 := i 0
/-- The chunk and the lane of a place. -/
def chunkOf (n : Fin 128) : Fin 8 := ⟨n.val / 16, by omega⟩
@[inherit_doc chunkOf] def laneOf (n : Fin 128) : Fin 16 := ⟨n.val % 16, by omega⟩

theorem at16_chunkOf (n : Fin 128) : at16 (chunkOf n) (laneOf n) = n := Fin.ext (by show 16 * (n.val / 16) + n.val % 16 = n.val; omega)
theorem chunkOf_at16 (c : Fin 8) (i : Fin 16) : chunkOf (at16 c i) = c := Fin.ext (by show (16 * c.val + i.val) / 16 = c.val; omega)
theorem laneOf_at16 (c : Fin 8) (i : Fin 16) : laneOf (at16 c i) = i := Fin.ext (by show (16 * c.val + i.val) % 16 = i.val; omega)

/-- A table of 128 as eight chunks. -/
def tabC (f : S128.Idx → F .f32) (c : Fin 8) : V16 F := fun i => f (p128 (at16 c (ln i)))
/-- A block's row as eight chunks. -/
def rowC (f : S16x128.Idx → F .f32) (r : Fin 16) (c : Fin 8) : V16 F := fun i => f (pRow r (at16 c (ln i)))

omit [FloatOps F] [Named F] in
/-- A load of a table's chunk, whatever its offset's spelling. -/
theorem readAt_tab {κ : Kind} {sp : Space} (v : View sig κ sp S128 .f32) (f : v.ty.Contents (Elt F)) (c : Fin 8) (off : Fin 1 → ℕ) (h : off = ![16 * c.val])
    (inb : ∀ a, off a + S16.size a ≤ S128.size a) :
    v.readAt (Elt F) (Rect.unit (s := S128) off S16.size inb).toLoadRect f = tabC (v.read (Elt F) f) c := by
  subst h
  funext i
  rw [View.readAt_apply]
  refine congrArg _ ?_
  funext a
  match a with
  | 0 => exact Fin.ext (by show 16 * c.val + 1 * (i 0).val = 16 * c.val + (i 0).val; omega)

/-- A lane vector with a unit axis in front, as the kernel stores a row's chunk. -/
def s16 (v : V16 F) : FVec F S1x16 .f32 := shapeCast S1x16 v shapeCasts_S16_S1x16

omit [FloatOps F] [Named F] in
theorem r16_apply (v : FVec F S1x16 .f32) (i : S16.Idx) : r16 v i = v (ix2 (0 : Fin 1) (i 0)) :=
  shapeCast_apply v _ _ _ (by
    rw [Shape.rowMajor_val_two, Shape.rowMajor_val_one]
    show 0 * 16 + (i 0).val = (i 0).val
    omega)

omit [FloatOps F] [Named F] in
theorem s16_apply (v : V16 F) (i : S1x16.Idx) : s16 v i = v (ix1 (i 1)) :=
  shapeCast_apply v _ _ _ (by
    rw [Shape.rowMajor_val_two, Shape.rowMajor_val_one]
    have h : (i 0).val < 1 := (i 0).isLt
    show (i 1).val = (i 0).val * 16 + (i 1).val
    omega)

omit [FloatOps F] [Named F] in
/-- A load of a row's chunk, whatever its offset's spelling. -/
theorem readAt_row {κ : Kind} {sp : Space} (v : View sig κ sp S16x128 .f32) (f : v.ty.Contents (Elt F)) (r : Fin 16) (c : Fin 8) (off : Fin 2 → ℕ) (h : off = ![r.val, 16 * c.val])
    (inb : ∀ a, off a + S1x16.size a ≤ S16x128.size a) :
    r16 (v.readAt (Elt F) (Rect.unit (s := S16x128) off S1x16.size inb).toLoadRect f) = rowC (v.read (Elt F) f) r c := by
  subst h
  funext i
  rw [r16_apply, View.readAt_apply]
  refine congrArg _ ?_
  funext a
  match a with
  | 0 => exact Fin.ext (by show r.val + 1 * 0 = r.val; omega)
  | 1 => exact Fin.ext (by show 16 * c.val + 1 * (i 0).val = 16 * c.val + (i 0).val; omega)

omit [FloatOps F] [Named F] in
/-- A family of chunks read at a place told by its chunk and its lane. -/
theorem pick (g : Fin 8 → V16 F) (n : Fin 128) (c : Fin 8) (i : Fin 16) (h : n = at16 c i) : g (chunkOf n) (ix1 (laneOf n)) = g c (ix1 i) := by
  subst h
  rw [chunkOf_at16, laneOf_at16]

theorem ix1_ln (i : S16.Idx) : (ix1 (ln i) : S16.Idx) = i := by
  funext a
  match a with
  | 0 => rfl

/-! ## A table written chunk by chunk -/

/-- The eight stores that write a table, the last first. -/
def tabPieces (g : Fin 8 → V16 F) : List (View.Piece (Elt F) S128 .f32) :=
  [⟨Rect.unit ![112] S16.size inb_S128_S16_112, g 7⟩, ⟨Rect.unit ![96] S16.size inb_S128_S16_96, g 6⟩, ⟨Rect.unit ![80] S16.size inb_S128_S16_80, g 5⟩,
   ⟨Rect.unit ![64] S16.size inb_S128_S16_64, g 4⟩, ⟨Rect.unit ![48] S16.size inb_S128_S16_48, g 3⟩, ⟨Rect.unit ![32] S16.size inb_S128_S16_32, g 2⟩,
   ⟨Rect.unit ![16] S16.size inb_S128_S16_16, g 1⟩, ⟨Rect.unit ![0] S16.size inb_S128_S16_0, g 0⟩]

omit [FloatOps F] [Named F] in
theorem tabPieces_read {κ : Kind} {sp : Space} (v : View sig κ sp S128 .f32) (f : v.ty.Contents (Elt F)) (g : Fin 8 → V16 F) (c : Fin 8) :
    tabC (v.read (Elt F) (v.writes (Elt F) f (tabPieces g))) c = g c := by
  have key : ∀ (k : Fin 8) (off : Fin 1 → ℕ) (inb : ∀ a, off a + S16.size a ≤ S128.size a), off = ![16 * k.val] → ∀ x : S16.Idx,
      g k x = (fun y : S128.Idx => g (chunkOf (y 0)) (ix1 (laneOf (y 0)))) ((Rect.unit (s := S128) off S16.size inb).emb x) := by
    rintro k _ inb rfl x
    have e : ((Rect.unit (s := S128) ![16 * k.val] S16.size inb).emb x) 0 = at16 k (x 0) :=
      Fin.ext (by show 16 * k.val + 1 * (x 0).val = 16 * k.val + (x 0).val; omega)
    exact ((pick g _ k (ln x) e).trans (congrArg (g k) (ix1_ln x))).symm
  have hcov : ∀ y : S128.Idx, ∃ p ∈ tabPieces g, y ∈ p.1.set := View.cover_of_tiled (tabPieces g) S16.size rfl
  funext i
  show v.read (Elt F) _ (p128 (at16 c (ln i))) = _
  rw [View.read_writes_apply_of_pieces v f (fun y : S128.Idx => g (chunkOf (y 0)) (ix1 (laneOf (y 0)))) (tabPieces g) ?_ _ (hcov _)]
  · exact (pick g _ c (ln i) rfl).trans (congrArg (g c) (ix1_ln i))
  · intro p hp
    simp only [tabPieces, List.mem_cons, List.not_mem_nil, _root_.or_false] at hp
    rcases hp with rfl | rfl | rfl | rfl | rfl | rfl | rfl | rfl
    · exact key 7 _ inb_S128_S16_112 rfl
    · exact key 6 _ inb_S128_S16_96 rfl
    · exact key 5 _ inb_S128_S16_80 rfl
    · exact key 4 _ inb_S128_S16_64 rfl
    · exact key 3 _ inb_S128_S16_48 rfl
    · exact key 2 _ inb_S128_S16_32 rfl
    · exact key 1 _ inb_S128_S16_16 rfl
    · exact key 0 _ inb_S128_S16_0 rfl

/-! ## A table rewritten in place, chunk by chunk -/

theorem inb16 (c : Fin 8) : ∀ a : Fin 1, (![16 * c.val] : Fin 1 → ℕ) a + S16.size a ≤ S128.size a := fun a => by
  match a with
  | 0 => show 16 * c.val + 16 ≤ 128; omega

/-- A chunk of a table. -/
abbrev rect16 (c : Fin 8) : Rect S128 := Rect.unit (s := S128) ![16 * c.val] S16.size (inb16 c)

omit [FloatOps F] [Named F] in
/-- A store of one chunk over whatever the earlier stores left. -/
theorem read_cons_tab {κ : Kind} {sp : Space} (v : View sig κ sp S128 .f32) (f : v.ty.Contents (Elt F)) (L : List (View.Piece (Elt F) S128 .f32)) (c : Fin 8) (w : V16 F) (r : Fin 8) :
    tabC (v.read (Elt F) (v.writes (Elt F) f (⟨rect16 c, w⟩ :: L))) r = if r = c then w else tabC (v.read (Elt F) (v.writes (Elt F) f L)) r := by
  funext i
  have hi : (ln i).val < 16 := (ln i).isLt
  split
  · next h =>
    subst h
    exact View.read_writes_cons_hit_of_coords v f (rect16 r) w L i _ (fun a => by
      match a with
      | 0 => show 16 * r.val + (i 0).val = 16 * r.val + 1 * (i 0).val; omega)
  · next h =>
    have hne : r.val ≠ c.val := fun e => h (Fin.ext e)
    exact View.read_writes_cons_miss_of_axis v f ⟨rect16 c, w⟩ L _ 0 (16 * c.val) 16 rfl rfl rfl (by
      show 16 * r.val + (ln i).val < 16 * c.val ∨ 16 * c.val + 16 ≤ 16 * r.val + (ln i).val
      omega)

/-- A table's stores followed by those that load each listed chunk back and store it less `m` (the last first). -/
def subPieces {κ : Kind} {sp : Space} (v : View sig κ sp S128 .f32) (g : Fin 8 → V16 F) (m : V16 F) : List (Fin 8) → List (View.Piece (Elt F) S128 .f32)
  | [] => tabPieces g
  | c :: cs => ⟨rect16 c, c16 (subf (c16 (v.readCov (subPieces v g m cs) (rect16 c).toLoadRect)) m)⟩ :: subPieces v g m cs

omit [Named F] in
theorem subPieces_read {κ : Kind} {sp : Space} (v : View sig κ sp S128 .f32) (g : Fin 8 → V16 F) (m : V16 F) :
    ∀ (cs : List (Fin 8)) (_ : cs.Nodup) (f : v.ty.Contents (Elt F)) (r : Fin 8),
      tabC (v.read (Elt F) (v.writes (Elt F) f (subPieces v g m cs))) r = if r ∈ cs then c16 (subf (c16 (g r)) m) else g r
  | [], _, f, r => by
    rw [if_neg List.not_mem_nil]
    exact tabPieces_read v f g r
  | c :: cs, hn, f, r => by
    have hn' := List.nodup_cons.mp hn
    have hl : v.readCov (subPieces v g m cs) (rect16 c).toLoadRect = g c := by
      refine (readAt_tab v _ c _ rfl _).trans ?_
      rw [subPieces_read v g m cs hn'.2, if_neg hn'.1]
    rw [subPieces, hl]
    refine (read_cons_tab v f _ c _ r).trans ?_
    by_cases h : r = c
    · subst h
      rw [if_pos rfl, if_pos List.mem_cons_self]
    · rw [if_neg h, subPieces_read v g m cs hn'.2]
      simp only [List.mem_cons, h, false_or]

/-! ## A row written chunk by chunk -/

/-- The eight stores that write a row, the last first. -/
def rowPieces (off : Fin 8 → Fin 2 → ℕ) (inb : ∀ c a, off c a + S1x16.size a ≤ S16x128.size a) (g : Fin 8 → V16 F) : List (View.Piece (Elt F) S16x128 .f32) :=
  [⟨Rect.unit (off 7) S1x16.size (inb 7), s16 (g 7)⟩, ⟨Rect.unit (off 6) S1x16.size (inb 6), s16 (g 6)⟩, ⟨Rect.unit (off 5) S1x16.size (inb 5), s16 (g 5)⟩,
   ⟨Rect.unit (off 4) S1x16.size (inb 4), s16 (g 4)⟩, ⟨Rect.unit (off 3) S1x16.size (inb 3), s16 (g 3)⟩, ⟨Rect.unit (off 2) S1x16.size (inb 2), s16 (g 2)⟩,
   ⟨Rect.unit (off 1) S1x16.size (inb 1), s16 (g 1)⟩, ⟨Rect.unit (off 0) S1x16.size (inb 0), s16 (g 0)⟩]

omit [FloatOps F] [Named F] in
theorem mem_rowPieces {off : Fin 8 → Fin 2 → ℕ} {inb : ∀ c a, off c a + S1x16.size a ≤ S16x128.size a} {g : Fin 8 → V16 F} {p : View.Piece (Elt F) S16x128 .f32} :
    p ∈ rowPieces off inb g ↔ ∃ c : Fin 8, p = ⟨Rect.unit (off c) S1x16.size (inb c), s16 (g c)⟩ := by
  simp only [rowPieces, List.mem_cons, List.not_mem_nil, _root_.or_false]
  constructor
  · rintro (h | h | h | h | h | h | h | h)
    exacts [⟨7, h⟩, ⟨6, h⟩, ⟨5, h⟩, ⟨4, h⟩, ⟨3, h⟩, ⟨2, h⟩, ⟨1, h⟩, ⟨0, h⟩]
  · rintro ⟨c, rfl⟩
    fin_cases c <;> simp

omit [FloatOps F] [Named F] in
/-- The row written reads the chunks written; every other row reads as before. -/
theorem rowPieces_read {κ : Kind} {sp : Space} (v : View sig κ sp S16x128 .f32) (f : v.ty.Contents (Elt F)) (t : Fin 16) (off : Fin 8 → Fin 2 → ℕ)
    (hoff : ∀ c, off c = ![t.val, 16 * c.val]) (inb : ∀ c a, off c a + S1x16.size a ≤ S16x128.size a) (g : Fin 8 → V16 F) (r : Fin 16) (c : Fin 8) :
    rowC (v.read (Elt F) (v.writes (Elt F) f (rowPieces off inb g))) r c = if r = t then g c else rowC (v.read (Elt F) f) r c := by
  obtain rfl : off = fun c => ![t.val, 16 * c.val] := funext hoff
  funext i
  show v.read (Elt F) _ (pRow r (at16 c (ln i))) = _
  split
  · next h =>
    subst h
    rw [View.read_writes_apply_of_pieces v f (fun y : S16x128.Idx => g (chunkOf (y 1)) (ix1 (laneOf (y 1)))) (rowPieces _ inb g) ?_ _ ?_]
    · exact (pick g _ c (ln i) rfl).trans (congrArg (g c) (ix1_ln i))
    · intro p hp
      obtain ⟨k, rfl⟩ := mem_rowPieces.mp hp
      intro x
      refine (s16_apply (g k) x).trans ?_
      have e : ((Rect.unit (s := S16x128) ![r.val, 16 * k.val] S1x16.size (inb k)).emb x) 1 = at16 k (x 1) :=
        Fin.ext (by show 16 * k.val + 1 * (x 1).val = 16 * k.val + (x 1).val; omega)
      exact (pick g _ k (x 1) e).symm
    · refine ⟨_, mem_rowPieces.mpr ⟨c, rfl⟩, LoadRect.mem_set _ |>.mpr fun a => ?_⟩
      match a with
      | 0 => exact ⟨0, Nat.one_pos, by show r.val = r.val + 1 * 0; omega⟩
      | 1 => exact ⟨(i 0).val, (i 0).isLt, by show 16 * c.val + (i 0).val = 16 * c.val + 1 * (i 0).val; omega⟩
  · next h =>
    rw [View.read_writes_apply_of_forall_not_mem]
    · rfl
    · intro p hp
      obtain ⟨k, rfl⟩ := mem_rowPieces.mp hp
      refine Rect.not_mem_set_of_axis _ _ 0 t.val 1 rfl rfl rfl ?_
      have : r.val ≠ t.val := fun e => h (Fin.ext e)
      show r.val < t.val ∨ t.val + 1 ≤ r.val
      omega

end Cert.Proof.Mix
-- ==== Proof.Folds.lean ====
/- The three folds over a row's tables, each by its loop's invariant. -/
module

public import proofs.«01_k».proof.Proof.Chunks

@[expose] public section

set_option maxRecDepth 16384

noncomputable section

namespace Cert.Proof.Mix

open Cert.KernelIdeal Cert.KernelIdeal.Gen Cert.Proof.Trips
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Loops
variable (d : Dev nD) (L : grid0.Coords) (fa : Buf (Elt F) (aB.view.loc (thr d L))) (fc : Buf (Elt F) (cB.view.loc (thr d L))) (fd : Buf (Elt F) (dB.view.loc (thr d L)))

/-- The three coefficient tables, held whole. -/
def tabs : sProp 𝕄 :=
  iprop((aB.view.loc (thr d L) ↦{fullShare} fa) ∗ (cB.view.loc (thr d L) ↦{fullShare} fc) ∗ (dB.view.loc (thr d L) ↦{fullShare} fd))

/-- Before trip `n` of a fold: the tables, and the accumulators as the first `n` chunks leave them. -/
def foldInv (step : V16 F → V16 F → V16 F → V8 F → V8 F) (s₀ : V8 F) (n : Nat) (s : V8 F) : sProp 𝕄 :=
  iprop(⌜s = iter8 (fun c => step (tabC (F := F) fa c) (tabC (F := F) fc c) (tabC (F := F) fd c)) s₀ n⌝ ∗ tabs d L fa fc fd)

omit [FloatOps F] [Named F] in
theorem iter8_succ {α : Type} (f : Fin 8 → α → α) (s : α) (k : Fin 8) : iter8 f s (k.val + 1) = f k (iter8 f s k.val) := by
  show (if h : k.val < 8 then f ⟨k.val, h⟩ (iter8 f s k.val) else iter8 f s k.val) = _
  rw [dif_pos k.isLt]

omit [FloatOps F] [Named F] in
theorem fold_step (step : V16 F → V16 F → V16 F → V8 F → V8 F) (s₀ s : V8 F) (n : Nat) (hn : n < 8) (A C D : V16 F)
    (hA : A = tabC (F := F) fa ⟨n, hn⟩) (hC : C = tabC (F := F) fc ⟨n, hn⟩) (hD : D = tabC (F := F) fd ⟨n, hn⟩)
    (hs : s = iter8 (fun c => step (tabC (F := F) fa c) (tabC (F := F) fc c) (tabC (F := F) fd c)) s₀ n) :
    step A C D s = iter8 (fun c => step (tabC (F := F) fa c) (tabC (F := F) fc c) (tabC (F := F) fd c)) s₀ (n + 1) := by
  subst hA hC hD hs
  exact (iter8_succ _ _ ⟨n, hn⟩).symm

theorem sum_region (z q s₀ : V8 F) (k : Fin k0_t2_loop.trips) (s : V8 F) :
    foldInv d L fa fc fd (fun a c d s => sumTrip8 a c d z q s) s₀ k.val s
      ⊢ wp frame (wpE (defs₀ (F := F)) 𝒱₀ (thr d L) none) Set.univ (sumProg L aB cB dB z q k s)
        fun r => foldInv d L fa fc fd (fun a c d s => sumTrip8 a c d z q s) s₀ (k.val + 1) r := by
  unfold sumProg foldInv tabs
  iintro ⟨%hs, Ha, Hc, Hd⟩
  sl_exec
  sl_step
  isplitr
  · ipureintro
    have hk : k.val < 8 := lt_of_lt_of_le k.isLt (by decide)
    exact fold_step d L fa fc fd (fun a c d s => sumTrip8 a c d z q s) s₀ s k.val hk _ _ _ (readAt_tab aB.view fa ⟨k.val, hk⟩ _ (k0_off11_eq k) _) (readAt_tab cB.view fc ⟨k.val, hk⟩ _ (k0_off11_eq k) _)
      (readAt_tab dB.view fd ⟨k.val, hk⟩ _ (k0_off11_eq k) _) hs
  isplitl [Ha]; · iexact Ha
  isplitl [Hc]; · iexact Hc
  iexact Hd

theorem max_region (z q s₀ : V8 F) (k : Fin k0_t3_loop.trips) (s : V8 F) :
    foldInv d L fa fc fd (fun a c d s => maxTrip8 a c d z q s) s₀ k.val s
      ⊢ wp frame (wpE (defs₀ (F := F)) 𝒱₀ (thr d L) none) Set.univ (maxProg L aB cB dB z q k s)
        fun r => foldInv d L fa fc fd (fun a c d s => maxTrip8 a c d z q s) s₀ (k.val + 1) r := by
  unfold maxProg foldInv tabs
  iintro ⟨%hs, Ha, Hc, Hd⟩
  sl_exec
  sl_step
  isplitr
  · ipureintro
    have hk : k.val < 8 := lt_of_lt_of_le k.isLt (by decide)
    exact fold_step d L fa fc fd (fun a c d s => maxTrip8 a c d z q s) s₀ s k.val hk _ _ _ (readAt_tab aB.view fa ⟨k.val, hk⟩ _ (k0_off12_eq k) _) (readAt_tab cB.view fc ⟨k.val, hk⟩ _ (k0_off12_eq k) _)
      (readAt_tab dB.view fd ⟨k.val, hk⟩ _ (k0_off12_eq k) _) hs
  isplitl [Ha]; · iexact Ha
  isplitl [Hc]; · iexact Hc
  iexact Hd

theorem sumM_region (z q m s₀ : V8 F) (k : Fin k0_t4_loop.trips) (s : V8 F) :
    foldInv d L fa fc fd (fun a c d s => sumTripM8 a c d z q m s) s₀ k.val s
      ⊢ wp frame (wpE (defs₀ (F := F)) 𝒱₀ (thr d L) none) Set.univ (sumMProg L aB cB dB z q m k s)
        fun r => foldInv d L fa fc fd (fun a c d s => sumTripM8 a c d z q m s) s₀ (k.val + 1) r := by
  unfold sumMProg foldInv tabs
  iintro ⟨%hs, Ha, Hc, Hd⟩
  sl_exec
  sl_step
  isplitr
  · ipureintro
    have hk : k.val < 8 := lt_of_lt_of_le k.isLt (by decide)
    exact fold_step d L fa fc fd (fun a c d s => sumTripM8 a c d z q m s) s₀ s k.val hk _ _ _ (readAt_tab aB.view fa ⟨k.val, hk⟩ _ (k0_off13_eq k) _) (readAt_tab cB.view fc ⟨k.val, hk⟩ _ (k0_off13_eq k) _)
      (readAt_tab dB.view fd ⟨k.val, hk⟩ _ (k0_off13_eq k) _) hs
  isplitl [Ha]; · iexact Ha
  isplitl [Hc]; · iexact Hc
  iexact Hd

end Loops

end Cert.Proof.Mix
-- ==== Proof.Row.lean ====
/- One row of a tile: the coefficient tables built, the row's sums folded, and its eight output chunks stored. -/
module

public import proofs.«01_k».proof.Proof.Folds

@[expose] public section

set_option maxRecDepth 16384

noncomputable section

namespace Cert.Proof.Mix

open Cert.KernelIdeal Cert.KernelIdeal.Gen Cert.Proof.Trips
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- One trip of the kernel's loop over a tile's sixteen rows. -/
abbrev rowProg (L : grid0.Coords) (v79 v159 : FVec F S16 .f32) (v160 : IVec S16 32) (v161 v162 : FVec F S8 .f32) (t : Fin k0_t1_loop.trips) :=
  k0_t1_body (F := F) L zH (Memref.isWhole_whole _) muH (Memref.isWhole_whole _) lvH (Memref.isWhole_whole _) wH (Memref.isWhole_whole _) oH (Memref.isWhole_whole _)
    zB (Memref.isWhole_whole _) muB (Memref.isWhole_whole _) lvB (Memref.isWhole_whole _) oB (Memref.isWhole_whole _) aB (Memref.isWhole_whole _) cB (Memref.isWhole_whole _)
    dB (Memref.isWhole_whole _) wB (Memref.isWhole_whole _) cc0_scoped0 cc0_scoped1 cc0_scoped2 cc0_scoped3 cc0_scoped4 v79 v159 v160 v161 v162 t ⟨⟩

/-- A row's eight chunks as the kernel loads them. -/
def rawRow {κ : Kind} {sp : Space} (v : View sig κ sp S16x128 .f32) (f : v.ty.Contents (Elt F)) (t : Fin k0_t1_loop.trips) : Fin 8 → V16 F
  | 0 => r16 (v.readAt (Elt F) (Rect.unit (s := S16x128) (k0_off3 t) S1x16.size (k0_off3_inb t)).toLoadRect f)
  | 1 => r16 (v.readAt (Elt F) (Rect.unit (s := S16x128) (k0_off4 t) S1x16.size (k0_off4_inb t)).toLoadRect f)
  | 2 => r16 (v.readAt (Elt F) (Rect.unit (s := S16x128) (k0_off5 t) S1x16.size (k0_off5_inb t)).toLoadRect f)
  | 3 => r16 (v.readAt (Elt F) (Rect.unit (s := S16x128) (k0_off6 t) S1x16.size (k0_off6_inb t)).toLoadRect f)
  | 4 => r16 (v.readAt (Elt F) (Rect.unit (s := S16x128) (k0_off7 t) S1x16.size (k0_off7_inb t)).toLoadRect f)
  | 5 => r16 (v.readAt (Elt F) (Rect.unit (s := S16x128) (k0_off8 t) S1x16.size (k0_off8_inb t)).toLoadRect f)
  | 6 => r16 (v.readAt (Elt F) (Rect.unit (s := S16x128) (k0_off9 t) S1x16.size (k0_off9_inb t)).toLoadRect f)
  | 7 => r16 (v.readAt (Elt F) (Rect.unit (s := S16x128) (k0_off10 t) S1x16.size (k0_off10_inb t)).toLoadRect f)

omit [FloatOps F] [Named F] in
theorem rawRow_eq {κ : Kind} {sp : Space} (v : View sig κ sp S16x128 .f32) (f : v.ty.Contents (Elt F)) (t : Fin k0_t1_loop.trips) (r : Fin 16) (h : r.val = t.val) :
    rawRow v f t = rowC (v.read (Elt F) f) r := by
  funext c
  fin_cases c
  · exact readAt_row v f r 0 _ ((k0_off3_eq t).trans (by rw [h]; rfl)) _
  · exact readAt_row v f r 1 _ ((k0_off4_eq t).trans (by rw [h]; rfl)) _
  · exact readAt_row v f r 2 _ ((k0_off5_eq t).trans (by rw [h]; rfl)) _
  · exact readAt_row v f r 3 _ ((k0_off6_eq t).trans (by rw [h]; rfl)) _
  · exact readAt_row v f r 4 _ ((k0_off7_eq t).trans (by rw [h]; rfl)) _
  · exact readAt_row v f r 5 _ ((k0_off8_eq t).trans (by rw [h]; rfl)) _
  · exact readAt_row v f r 6 _ ((k0_off9_eq t).trans (by rw [h]; rfl)) _
  · exact readAt_row v f r 7 _ ((k0_off10_eq t).trans (by rw [h]; rfl)) _

/-- A weight table's eight chunks as the kernel loads them. -/
def rawTab {κ : Kind} {sp : Space} (v : View sig κ sp S128 .f32) (f : v.ty.Contents (Elt F)) : Fin 8 → V16 F
  | 0 => v.readAt (Elt F) (Rect.unit (s := S128) ![0] S16.size inb_S128_S16_0).toLoadRect f
  | 1 => v.readAt (Elt F) (Rect.unit (s := S128) ![16] S16.size inb_S128_S16_16).toLoadRect f
  | 2 => v.readAt (Elt F) (Rect.unit (s := S128) ![32] S16.size inb_S128_S16_32).toLoadRect f
  | 3 => v.readAt (Elt F) (Rect.unit (s := S128) ![48] S16.size inb_S128_S16_48).toLoadRect f
  | 4 => v.readAt (Elt F) (Rect.unit (s := S128) ![64] S16.size inb_S128_S16_64).toLoadRect f
  | 5 => v.readAt (Elt F) (Rect.unit (s := S128) ![80] S16.size inb_S128_S16_80).toLoadRect f
  | 6 => v.readAt (Elt F) (Rect.unit (s := S128) ![96] S16.size inb_S128_S16_96).toLoadRect f
  | 7 => v.readAt (Elt F) (Rect.unit (s := S128) ![112] S16.size inb_S128_S16_112).toLoadRect f

omit [FloatOps F] [Named F] in
theorem rawTab_eq {κ : Kind} {sp : Space} (v : View sig κ sp S128 .f32) (f : v.ty.Contents (Elt F)) : rawTab v f = tabC (v.read (Elt F) f) := by
  funext c
  fin_cases c
  · exact readAt_tab v f 0 _ rfl _
  · exact readAt_tab v f 1 _ rfl _
  · exact readAt_tab v f 2 _ rfl _
  · exact readAt_tab v f 3 _ rfl _
  · exact readAt_tab v f 4 _ rfl _
  · exact readAt_tab v f 5 _ rfl _
  · exact readAt_tab v f 6 _ rfl _
  · exact readAt_tab v f 7 _ rfl _

/-- The windows of a row's eight chunks, as the single pass spells them. -/
def rowOff (t : Fin k0_t1_loop.trips) : Fin 8 → Fin 2 → ℕ
  | 0 => k0_off3 t | 1 => k0_off4 t | 2 => k0_off5 t | 3 => k0_off6 t | 4 => k0_off7 t | 5 => k0_off8 t | 6 => k0_off9 t | 7 => k0_off10 t

theorem rowOff_eq (t : Fin k0_t1_loop.trips) (r : Fin 16) (h : r.val = t.val) : ∀ c : Fin 8, rowOff t c = ![r.val, 16 * c.val]
  | 0 => (k0_off3_eq t).trans (by rw [h]; rfl) | 1 => (k0_off4_eq t).trans (by rw [h]; rfl) | 2 => (k0_off5_eq t).trans (by rw [h]; rfl) | 3 => (k0_off6_eq t).trans (by rw [h]; rfl) | 4 => (k0_off7_eq t).trans (by rw [h]; rfl) | 5 => (k0_off8_eq t).trans (by rw [h]; rfl) | 6 => (k0_off9_eq t).trans (by rw [h]; rfl) | 7 => (k0_off10_eq t).trans (by rw [h]; rfl)

theorem rowOff_inb (t : Fin k0_t1_loop.trips) : ∀ (c : Fin 8) (a), rowOff t c a + S1x16.size a ≤ S16x128.size a
  | 0 => k0_off3_inb t | 1 => k0_off4_inb t | 2 => k0_off5_inb t | 3 => k0_off6_inb t | 4 => k0_off7_inb t | 5 => k0_off8_inb t | 6 => k0_off9_inb t | 7 => k0_off10_inb t

/-- The windows of a row's eight chunks, as the two passes spell them. -/
def redoOff (t : Fin k0_t1_loop.trips) : Fin 8 → Fin 2 → ℕ
  | 0 => k0_off14 t | 1 => k0_off15 t | 2 => k0_off16 t | 3 => k0_off17 t | 4 => k0_off18 t | 5 => k0_off19 t | 6 => k0_off20 t | 7 => k0_off21 t

theorem redoOff_eq (t : Fin k0_t1_loop.trips) (r : Fin 16) (h : r.val = t.val) : ∀ c : Fin 8, redoOff t c = ![r.val, 16 * c.val]
  | 0 => (k0_off14_eq t).trans (by rw [h]; rfl) | 1 => (k0_off15_eq t).trans (by rw [h]; rfl) | 2 => (k0_off16_eq t).trans (by rw [h]; rfl) | 3 => (k0_off17_eq t).trans (by rw [h]; rfl) | 4 => (k0_off18_eq t).trans (by rw [h]; rfl) | 5 => (k0_off19_eq t).trans (by rw [h]; rfl) | 6 => (k0_off20_eq t).trans (by rw [h]; rfl) | 7 => (k0_off21_eq t).trans (by rw [h]; rfl)

theorem redoOff_inb (t : Fin k0_t1_loop.trips) : ∀ (c : Fin 8) (a), redoOff t c a + S1x16.size a ≤ S16x128.size a
  | 0 => k0_off14_inb t | 1 => k0_off15_inb t | 2 => k0_off16_inb t | 3 => k0_off17_inb t | 4 => k0_off18_inb t | 5 => k0_off19_inb t | 6 => k0_off20_inb t | 7 => k0_off21_inb t

section RowTrip
variable (d : Dev nD) (L : grid0.Coords) (fz : Buf (Elt F) (zB.view.loc (thr d L))) (fmu : Buf (Elt F) (muB.view.loc (thr d L))) (flv : Buf (Elt F) (lvB.view.loc (thr d L)))
  (fw : Buf (Elt F) (wB.view.loc (thr d L)))

/-- The tile's buffers between two rows: its inputs held at their contents, the output block at `fo`, the coefficient tables at anything. -/
def rowRes (fo : Buf (Elt F) (oB.view.loc (thr d L))) : sProp 𝕄 :=
  iprop((zB.view.loc (thr d L) ↦{fullShare} fz) ∗ (muB.view.loc (thr d L) ↦{fullShare} fmu) ∗ (lvB.view.loc (thr d L) ↦{fullShare} flv) ∗ (wB.view.loc (thr d L) ↦{fullShare} fw)
    ∗ (oB.view.loc (thr d L) ↦{fullShare} fo) ∗ ∃ fa fc fd, tabs d L fa fc fd)

/-- The chunks one row's trip computes. -/
def rowOut (lse : V16 F) (t : Fin 16) (c : Fin 8) : V16 F :=
  outV lse (tabC (F := F) fw) (rowC (F := F) fmu t) (rowC (F := F) flv t) (rowC (F := F) fz t) c

set_option maxHeartbeats 8000000 in
theorem row_trip (v79 v159 : FVec F S16 .f32) (v160 : IVec S16 32) (v161 v162 : FVec F S8 .f32) (t : Fin k0_t1_loop.trips) (fo : Buf (Elt F) (oB.view.loc (thr d L))) :
    rowRes d L fz fmu flv fw fo
      ⊢ wp frame (wpE (defs₀ (F := F)) 𝒱₀ (thr d L) none) Set.univ (rowProg L v79 v159 v160 v161 v162 t)
        fun _ => iprop(∃ fo' : Buf (Elt F) (oB.view.loc (thr d L)), rowRes d L fz fmu flv fw fo'
          ∗ ⌜∀ r c, rowC (F := F) fo' r c = if r.val = t.val then rowOut d L fz fmu flv fw (k0_pay1 v79 v159 v160 v161 v162) r c else rowC (F := F) fo r c⌝) := by
  unfold rowProg k0_t1_body rowRes tabs
  iintro ⟨Hz, Hmu, Hlv, Hw, Ho, %fa, %fc, %fd, Ha, Hc, Hd⟩
  sl_exec
  generalize ha : (aB.view.writes (Elt F) aB.view.junk _ : Buf (Elt F) (aB.view.loc (thr d L))) = fa'
  generalize hc : (cB.view.writes (Elt F) cB.view.junk _ : Buf (Elt F) (cB.view.loc (thr d L))) = fc'
  generalize hd : (dB.view.writes (Elt F) dB.view.junk _ : Buf (Elt F) (dB.view.loc (thr d L))) = fd'
  have ht : t.val < 16 := lt_of_lt_of_le t.isLt (by decide)
  have eLv : rawRow lvB.view flv t = rowC (F := F) flv ⟨t.val, ht⟩ := rawRow_eq lvB.view flv t ⟨t.val, ht⟩ rfl
  have eMu : rawRow muB.view fmu t = rowC (F := F) fmu ⟨t.val, ht⟩ := rawRow_eq muB.view fmu t ⟨t.val, ht⟩ rfl
  have eZ : rawRow zB.view fz t = rowC (F := F) fz ⟨t.val, ht⟩ := rawRow_eq zB.view fz t ⟨t.val, ht⟩ rfl
  have eW : rawTab wB.view fw = tabC (F := F) fw := rawTab_eq wB.view fw
  have hA : tabC (F := F) fa' = aT (rowC (F := F) flv ⟨t.val, ht⟩) := by
    rw [← eLv, ← ha]
    exact funext fun c => tabPieces_read aB.view _ (aT (rawRow lvB.view flv t)) c
  have hC : tabC (F := F) fc' = cT (rowC (F := F) fmu ⟨t.val, ht⟩) (rowC (F := F) flv ⟨t.val, ht⟩) := by
    rw [← eLv, ← eMu, ← hc]
    exact funext fun c => tabPieces_read cB.view _ (cT (rawRow muB.view fmu t) (rawRow lvB.view flv t)) c
  have hD : tabC (F := F) fd' = dT (k0_pay1 v79 v159 v160 v161 v162) (tabC (F := F) fw) (rowC (F := F) fmu ⟨t.val, ht⟩) (rowC (F := F) flv ⟨t.val, ht⟩) := by
    rw [← eLv, ← eMu, ← eW, ← hd]
    exact funext fun c => (subPieces_read dB.view (fun c => c16 (dV0 (k0_pay1 v79 v159 v160 v161 v162) (rawTab wB.view fw) (rawRow muB.view fmu t) (rawRow lvB.view flv t) c))
      (m0V (k0_pay1 v79 v159 v160 v161 v162) (rawTab wB.view fw) (rawRow lvB.view flv t)) [7, 6, 5, 4, 3, 2, 1, 0] (by decide) _ c).trans (if_pos (by fin_cases c <;> decide))
  clear ha hc hd
  sl_for (foldInv d L fa' fc' fd' (fun a c d s => sumTrip8 a c d (tup (rawRow zB.view fz t)) (tup (sqV (rawRow zB.view fz t))) s) (tup fun _ => k16 0x00000000#32)) $$ [Ha Hc Hd]
  case region =>
    intro k s
    exact sum_region d L fa' fc' fd' (tup (rawRow zB.view fz t)) (tup (sqV (rawRow zB.view fz t))) _ k s
  · unfold foldInv tabs
    isplitr
    · ipureintro; rfl
    isplitl [Ha]; · iexact Ha
    isplitl [Hc]; · iexact Hc
    iexact Hd
  iintro %s HI
  obtain ⟨s0, s1, s2, s3, s4, s5, s6, s7⟩ := s
  unfold foldInv tabs
  icases HI with ⟨%hs, Ha, Hc, Hd⟩
  have hs' : (s0, s1, s2, s3, s4, s5, s6, s7) = sumsAt (k0_pay1 v79 v159 v160 v161 v162) (tabC (F := F) fw) (rowC (F := F) fmu ⟨t.val, ht⟩) (rowC (F := F) flv ⟨t.val, ht⟩)
      (rowC (F := F) fz ⟨t.val, ht⟩) 8 := hs.trans (by rw [hA, hC, hD, eZ]; rfl)
  have hm : m0V (k0_pay1 v79 v159 v160 v161 v162) (rawTab wB.view fw) (rawRow lvB.view flv t)
      = m0V (k0_pay1 v79 v159 v160 v161 v162) (tabC (F := F) fw) (rowC (F := F) flv ⟨t.val, ht⟩) := by rw [eW, eLv]
  by_cases hb : Scalar.cmpi .ne (Scalar.extui (Scalar.cmpf (F := F) .olt (sminS (s0, s1, s2, s3, s4, s5, s6, s7)) (Scalar.ofBits .f32 0x15F79688#32))) 0#32 = 1#1
  · sl_exec (disch := first | sl_exact hb)
    sl_for (foldInv d L fa' fc' fd' (fun a c d s => maxTrip8 a c d (tup (rawRow zB.view fz t)) (tup (sqV (rawRow zB.view fz t))) s) (tup fun _ => k16 0xFF61B1E6#32)) $$ [Ha Hc Hd]
    case region =>
      intro k s
      exact max_region d L fa' fc' fd' (tup (rawRow zB.view fz t)) (tup (sqV (rawRow zB.view fz t))) _ k s
    · unfold foldInv tabs
      isplitr
      · ipureintro; rfl
      isplitl [Ha]; · iexact Ha
      isplitl [Hc]; · iexact Hc
      iexact Hd
    iintro %m HI
    obtain ⟨m0, m1, m2, m3, m4, m5, m6, m7⟩ := m
    unfold foldInv tabs
    icases HI with ⟨%hmx, Ha, Hc, Hd⟩
    have hmx' : (m0, m1, m2, m3, m4, m5, m6, m7) = maxsAt (k0_pay1 v79 v159 v160 v161 v162) (tabC (F := F) fw) (rowC (F := F) fmu ⟨t.val, ht⟩) (rowC (F := F) flv ⟨t.val, ht⟩)
        (rowC (F := F) fz ⟨t.val, ht⟩) 8 := hmx.trans (by rw [hA, hC, hD, eZ]; rfl)
    sl_exec
    sl_for (foldInv d L fa' fc' fd' (fun a c d s => sumTripM8 a c d (tup (rawRow zB.view fz t)) (tup (sqV (rawRow zB.view fz t))) (m0, m1, m2, m3, m4, m5, m6, m7) s) (tup fun _ => k16 0x00000000#32)) $$ [Ha Hc Hd]
    case region =>
      intro k s
      exact sumM_region d L fa' fc' fd' (tup (rawRow zB.view fz t)) (tup (sqV (rawRow zB.view fz t))) (m0, m1, m2, m3, m4, m5, m6, m7) _ k s
    · unfold foldInv tabs
      isplitr
      · ipureintro; rfl
      isplitl [Ha]; · iexact Ha
      isplitl [Hc]; · iexact Hc
      iexact Hd
    iintro %u HI
    obtain ⟨u0, u1, u2, u3, u4, u5, u6, u7⟩ := u
    unfold foldInv tabs
    icases HI with ⟨%hu, Ha, Hc, Hd⟩
    have hu' : (u0, u1, u2, u3, u4, u5, u6, u7) = sumsMAt (k0_pay1 v79 v159 v160 v161 v162) (tabC (F := F) fw) (rowC (F := F) fmu ⟨t.val, ht⟩) (rowC (F := F) flv ⟨t.val, ht⟩)
        (rowC (F := F) fz ⟨t.val, ht⟩) 8 := hu.trans (by rw [hA, hC, hD, eZ, hmx']; rfl)
    sl_exec
    sl_step
    iexists (oB.view.writes (Elt F) fo (rowPieces (redoOff t) (redoOff_inb t) (fun c => addf (addf (nth (m0, m1, m2, m3, m4, m5, m6, m7) c) (log (nth (u0, u1, u2, u3, u4, u5, u6, u7) c)))
        (m0V (k0_pay1 v79 v159 v160 v161 v162) (rawTab wB.view fw) (rawRow lvB.view flv t)))
      ++ rowPieces (rowOff t) (rowOff_inb t) (fun c => addf (log (nth (s0, s1, s2, s3, s4, s5, s6, s7) c)) (m0V (k0_pay1 v79 v159 v160 v161 v162) (rawTab wB.view fw) (rawRow lvB.view flv t)))))
    isplitl [Hz Hmu Hlv Hw Ho Ha Hc Hd]
    · isplitl [Hz]; · iexact Hz
      isplitl [Hmu]; · iexact Hmu
      isplitl [Hlv]; · iexact Hlv
      isplitl [Hw]; · iexact Hw
      isplitl [Ho]; · iexact Ho
      iexists fa'; iexists fc'; iexists fd'
      isplitl [Ha]; · iexact Ha
      isplitl [Hc]; · iexact Hc
      iexact Hd
    · ipureintro
      intro r c
      rw [View.writes_append]
      have h1 := rowPieces_read (F := F) oB.view (oB.view.writes (Elt F) fo (rowPieces (rowOff t) (rowOff_inb t) (fun c => addf (log (nth (s0, s1, s2, s3, s4, s5, s6, s7) c)) (m0V (k0_pay1 v79 v159 v160 v161 v162) (rawTab wB.view fw) (rawRow lvB.view flv t))))) ⟨t.val, ht⟩ (redoOff t) (redoOff_eq t ⟨t.val, ht⟩ rfl) (redoOff_inb t) (fun c => addf (addf (nth (m0, m1, m2, m3, m4, m5, m6, m7) c) (log (nth (u0, u1, u2, u3, u4, u5, u6, u7) c)))
        (m0V (k0_pay1 v79 v159 v160 v161 v162) (rawTab wB.view fw) (rawRow lvB.view flv t))) r c
      have h2 := rowPieces_read (F := F) oB.view fo ⟨t.val, ht⟩ (rowOff t) (rowOff_eq t ⟨t.val, ht⟩ rfl) (rowOff_inb t) (fun c => addf (log (nth (s0, s1, s2, s3, s4, s5, s6, s7) c)) (m0V (k0_pay1 v79 v159 v160 v161 v162) (rawTab wB.view fw) (rawRow lvB.view flv t))) r c
      refine h1.trans ?_
      by_cases hr : r = ⟨t.val, ht⟩
      · rw [if_pos hr, if_pos (congrArg Fin.val hr), hm, hmx', hu', hr]
        rw [hs'] at hb
        exact (if_pos hb).symm
      · rw [if_neg hr, if_neg (fun e => hr (Fin.ext e))]
        exact h2.trans (if_neg hr)
  · sl_exec (disch := first | sl_exact hb)
    sl_step
    iexists (oB.view.writes (Elt F) fo (rowPieces (rowOff t) (rowOff_inb t) (fun c => addf (log (nth (s0, s1, s2, s3, s4, s5, s6, s7) c)) (m0V (k0_pay1 v79 v159 v160 v161 v162) (rawTab wB.view fw) (rawRow lvB.view flv t)))))
    isplitl [Hz Hmu Hlv Hw Ho Ha Hc Hd]
    · isplitl [Hz]; · iexact Hz
      isplitl [Hmu]; · iexact Hmu
      isplitl [Hlv]; · iexact Hlv
      isplitl [Hw]; · iexact Hw
      isplitl [Ho]; · iexact Ho
      iexists fa'; iexists fc'; iexists fd'
      isplitl [Ha]; · iexact Ha
      isplitl [Hc]; · iexact Hc
      iexact Hd
    · ipureintro
      intro r c
      have h2 := rowPieces_read (F := F) oB.view fo ⟨t.val, ht⟩ (rowOff t) (rowOff_eq t ⟨t.val, ht⟩ rfl) (rowOff_inb t) (fun c => addf (log (nth (s0, s1, s2, s3, s4, s5, s6, s7) c)) (m0V (k0_pay1 v79 v159 v160 v161 v162) (rawTab wB.view fw) (rawRow lvB.view flv t))) r c
      refine h2.trans ?_
      by_cases hr : r = ⟨t.val, ht⟩
      · rw [if_pos hr, if_pos (congrArg Fin.val hr), hm, hs', hr]
        rw [hs'] at hb
        exact (if_neg hb).symm
      · rw [if_neg hr, if_neg (fun e => hr (Fin.ext e))]
        rfl
end RowTrip
end Cert.Proof.Mix
-- ==== Proof.Tile.lean ====
/- One tile of the SparseCore kernel: its copies in, its sixteen rows, its copy out. -/
module

public import proofs.«01_k».proof.Proof.Row
public import Idealize.ShloMosaic.Lib.ShareLeaves
public import Idealize.ShloMosaic.Lib.ValueLayout

@[expose] public section

set_option maxRecDepth 16384

noncomputable section

namespace Cert.Proof.Mix

open Cert.KernelIdeal Cert.KernelIdeal.Gen Cert.Proof.Trips
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F] [Named F]

local notation "𝕄" => MT nD τ sig (HIx 1) (Elt F) ℕ UU ℕ

/-! ## The arrays in main memory -/

abbrev zLoc (d : Dev nD) : Loc nD τ sig := (SparseCore.T d).loc main_v5
abbrev muLoc (d : Dev nD) : Loc nD τ sig := (SparseCore.T d).loc main_v13
abbrev lvLoc (d : Dev nD) : Loc nD τ sig := (SparseCore.T d).loc main_v14
abbrev wLoc (d : Dev nD) : Loc nD τ sig := (SparseCore.T d).loc main_v15
abbrev oLoc (d : Dev nD) : Loc nD τ sig := (SparseCore.T d).loc main_v16

theorem hdiv : 32 ∣ S32x16x128.size 0 := ⟨1, rfl⟩
/-- Block `i` of the 32 blocks of the points and of the results: one tile's. -/
abbrev blk (i : Fin 32) : Rect S32x16x128 := Rect.part (s := S32x16x128) (a₀ := 0) hdiv i
abbrev blkSet (i : Fin 32) : Finset S32x16x128.Idx := (zH.view.slice (blk i)).set

theorem bound_zero : grid0.bound 0 = 2 := rfl
theorem bound_one : grid0.bound 1 = 16 := rfl
/-- The block of tile `s` of SparseCore `c`. -/
def wid (c : Fin 2) (s : Fin 16) : Fin 32 := ⟨16 * c.val + s.val, by omega⟩
abbrev widL (L : grid0.Coords) : Fin 32 := wid (Fin.cast bound_zero (L 0)) (Fin.cast bound_one (L 1))

/-- The share of the tables one tile reads. -/
abbrev sh (i : Fin 32) : PosShare TreeShare := Idealize.ShloMosaic.ShareLeaves.leaf 5 fullShare i

/-! ## The values -/

/-- A tile's points. -/
def tileZ (z : Vec F S32x16x128 .f32) (i : Fin 32) : Vec F S16x128 .f32 := fun y => z (ix3 i (y 0) (y 1))
/-- A tile's sixteen table rows: its dimension group's. -/
def tileM (mu : Vec F S64x128 .f32) (i : Fin 32) : Vec F S16x128 .f32 := fun y => mu (ix2 ⟨16 * (i.val / 8) + (y 0).val, by have := (y 0).isLt; have : S16x128.size 0 = 16 := rfl; omega⟩ (y 1))
/-- What the SparseCore kernel computes. -/
def scOut (z : Vec F S32x16x128 .f32) (mu lv : Vec F S64x128 .f32) (w : Vec F S128 .f32) : Vec F S32x16x128 .f32 := fun p =>
  outV (lseV (tabC w)) (tabC w) (rowC (tileM mu (p 0)) (p 1)) (rowC (tileM lv (p 0)) (p 1)) (rowC (tileZ z (p 0)) (p 1)) (chunkOf (p 2)) (ix1 (laneOf (p 2)))

/-! ## The windows -/

theorem k0_off2_eq : ∀ i : grid0.Coords, k0_off2 i = ![16 * ((16 * (i 0).val + (i 1).val) / 8), 0] := by decide +kernel
instance closedOff_k0_off2 (i : grid0.Coords) : ClosedOff (k0_off2 i) := ⟨![16 * ((16 * (i 0).val + (i 1).val) / 8), 0], k0_off2_eq i⟩

section Tile
variable (d : Dev nD) (L : grid0.Coords)

abbrev blkK : Rect S32x16x128 := Rect.unit (s := S32x16x128) (k0_off1 L) S1x16x128.size (k0_off1_inb L)
abbrev zBlkK : Memref sig .scVector .hbm S16x128 .f32 := (zH.slice (blkK L) (fun _ => rfl)).squeeze S16x128 squeezes_S1x16x128_S16x128
abbrev oBlkK : Memref sig .scVector .hbm S16x128 .f32 := (oH.slice (blkK L) (fun _ => rfl)).squeeze S16x128 squeezes_S1x16x128_S16x128

omit [FloatOps F] [Named F] in
theorem blkK_eq : blkK L = blk (widL L) := by
  unfold blkK blk Rect.part Rect.block
  congr 1 <;> funext a
  · rw [k0_off1_eq]
    match a with
    | 0 => simp [Shape.partIx, Shape.partSize, wid]; rfl
    | 1 => simp [Shape.partIx, Shape.partSize]
    | 2 => simp [Shape.partIx, Shape.partSize]
  · match a with
    | 0 => simp [Shape.partSize]
    | 1 => simp [Shape.partSize]
    | 2 => simp [Shape.partSize]
omit [FloatOps F] [Named F] in
theorem set_zBlkK : (zBlkK L).view.set = blkSet (widL L) := by
  show ((zH.view.slice (blkK L)).reshape S16x128 squeezes_S1x16x128_S16x128.numel_eq).set = (zH.view.slice (blk (widL L))).set
  rw [View.set_reshape]
  exact blkK_eq L ▸ rfl
omit [FloatOps F] [Named F] in
theorem set_oBlkK : (oBlkK L).view.set = blkSet (widL L) := by
  show ((oH.view.slice (blkK L)).reshape S16x128 squeezes_S1x16x128_S16x128.numel_eq).set = (zH.view.slice (blk (widL L))).set
  rw [View.set_reshape]
  exact blkK_eq L ▸ rfl
omit [FloatOps F] [Named F] in
theorem pts_zBlkK (f : Buf (Elt F) (zLoc d)) :
    ((zBlkK L).view.loc (thr d L) ↦[(zBlkK L).view.set]{fullShare} f : sProp 𝕄) = zLoc d ↦[blkSet (widL L)]{fullShare} f := by
  rw [set_zBlkK]
omit [FloatOps F] [Named F] in
theorem pts_oBlkK (f : Buf (Elt F) (oLoc d)) :
    ((oBlkK L).view.loc (thr d L) ↦[(oBlkK L).view.set]{fullShare} f : sProp 𝕄) = oLoc d ↦[blkSet (widL L)]{fullShare} f := by
  rw [set_oBlkK]

omit [FloatOps F] [Named F] in
/-- What a tile's block of an array reads, through the kernel's spelling of the block. -/
theorem read_zBlkK (f : Vec F S32x16x128 .f32) : (zBlkK L).view.read (Elt F) f = tileZ f (widL L) := by
  funext y
  have e : Shape.reshapeEquiv squeezes_S1x16x128_S16x128.numel_eq y = ix3 (⟨0, Nat.one_pos⟩ : Fin 1) (y 0) (y 1) :=
    (congrArg _ (show y = ix2 (y 0) (y 1) from funext fun | 0 => rfl | 1 => rfl)).trans (Idealize.ShloMosaic.ValueIdx.reshapeEquiv_ix2_1ab _ (y 0) (y 1))
  show f ((blkK L).emb (Shape.reshapeEquiv squeezes_S1x16x128_S16x128.numel_eq y)) = f (ix3 (widL L) (y 0) (y 1))
  rw [e]
  congr 1
  funext a
  refine Fin.ext ?_
  show k0_off1 L a + 1 * _ = _
  rw [k0_off1_eq]
  match a with
  | 0 => rfl
  | 1 => show 0 + 1 * (y 0).val = (y 0).val; omega
  | 2 => show 0 + 1 * (y 1).val = (y 1).val; omega

omit [FloatOps F] [Named F] in
theorem read_oBlkK (f : Vec F S32x16x128 .f32) : (oBlkK L).view.read (Elt F) f = tileZ f (widL L) := read_zBlkK L f

/-- The table rows a tile copies, as the kernel spells them. -/
abbrev grp : Rect S64x128 := Rect.unit (s := S64x128) (k0_off2 L) S16x128.size (k0_off2_inb L)

omit [FloatOps F] [Named F] in
theorem read_grp (f : Vec F S64x128 .f32) : (muH.slice (grp L) (fun _ => rfl)).view.read (Elt F) f = tileM f (widL L) := by
  funext y
  show f ((grp L).emb y) = f (ix2 _ (y 1))
  congr 1
  funext a
  refine Fin.ext ?_
  show k0_off2 L a + 1 * _ = _
  rw [k0_off2_eq]
  match a with
  | 0 => show 16 * ((16 * (L 0).val + (L 1).val) / 8) + 1 * (y 0).val = _; rw [Nat.one_mul]; rfl
  | 1 => show 0 + 1 * (y 1).val = (y 1).val; omega

/-! ## The subcore's own buffers and cells -/

/-- The kernel's scratch buffers. -/
def bufs : Finset (Ref sig .scVector) := {cc0_scratch0, cc0_scratch1, cc0_scratch2, cc0_scratch3, cc0_scratch4, cc0_scratch5, cc0_scratch6, cc0_scratch7}
/-- The kernel's transfer cells. -/
def cells : Finset (SemLoc sig) := {.dma cc0_scoped0.sem, .dma cc0_scoped1.sem, .dma cc0_scoped2.sem, .dma cc0_scoped3.sem, .dma cc0_scoped4.sem}

theorem buf_new0 : cc0_scratch0 ∉ ({cc0_scratch1, cc0_scratch2, cc0_scratch3, cc0_scratch4, cc0_scratch5, cc0_scratch6, cc0_scratch7} : Finset (Ref sig .scVector)) := by decide
theorem buf_new1 : cc0_scratch1 ∉ ({cc0_scratch2, cc0_scratch3, cc0_scratch4, cc0_scratch5, cc0_scratch6, cc0_scratch7} : Finset (Ref sig .scVector)) := by decide
theorem buf_new2 : cc0_scratch2 ∉ ({cc0_scratch3, cc0_scratch4, cc0_scratch5, cc0_scratch6, cc0_scratch7} : Finset (Ref sig .scVector)) := by decide
theorem buf_new3 : cc0_scratch3 ∉ ({cc0_scratch4, cc0_scratch5, cc0_scratch6, cc0_scratch7} : Finset (Ref sig .scVector)) := by decide
theorem buf_new4 : cc0_scratch4 ∉ ({cc0_scratch5, cc0_scratch6, cc0_scratch7} : Finset (Ref sig .scVector)) := by decide
theorem buf_new5 : cc0_scratch5 ∉ ({cc0_scratch6, cc0_scratch7} : Finset (Ref sig .scVector)) := by decide
theorem buf_new6 : cc0_scratch6 ∉ ({cc0_scratch7} : Finset (Ref sig .scVector)) := by decide
theorem cell_new0 : (.dma cc0_scoped0.sem : SemLoc sig) ∉ ({(.dma cc0_scoped1.sem : SemLoc sig), (.dma cc0_scoped2.sem : SemLoc sig), (.dma cc0_scoped3.sem : SemLoc sig), (.dma cc0_scoped4.sem : SemLoc sig)} : Finset (SemLoc sig)) := by decide
theorem cell_new1 : (.dma cc0_scoped1.sem : SemLoc sig) ∉ ({(.dma cc0_scoped2.sem : SemLoc sig), (.dma cc0_scoped3.sem : SemLoc sig), (.dma cc0_scoped4.sem : SemLoc sig)} : Finset (SemLoc sig)) := by decide
theorem cell_new2 : (.dma cc0_scoped2.sem : SemLoc sig) ∉ ({(.dma cc0_scoped3.sem : SemLoc sig), (.dma cc0_scoped4.sem : SemLoc sig)} : Finset (SemLoc sig)) := by decide
theorem cell_new3 : (.dma cc0_scoped3.sem : SemLoc sig) ∉ ({(.dma cc0_scoped4.sem : SemLoc sig)} : Finset (SemLoc sig)) := by decide

def bufRefs : Finset (DevRef τ sig) := bufs.map ⟨(Proc.scVector (cV L) (jV L)).devRef, Proc.devRef_injective _⟩
def cellRefs : Finset (GSem nD τ sig) := cells.map ⟨fun s => (thr d L, s), fun _ _ h => congrArg Prod.snd h⟩

theorem bufs_owner : ∀ b ∈ bufs, b.isScoped = true := by decide
theorem cells_scoped : ∀ s ∈ cells, SemLoc.isScoped .scVector s = true := by decide

theorem bufRefs_sub : bufRefs L ⊆ ownRefs (τ := τ) (.scVector (cV L) (jV L)) := by
  intro b hb
  obtain ⟨r, hr, rfl⟩ := Finset.mem_map.mp hb
  refine SparseCore.Cfg.mem_ownRefs_of_owner ?_
  simp only [bufs, Finset.mem_insert, Finset.mem_singleton] at hr
  rcases hr with rfl | rfl | rfl | rfl | rfl | rfl | rfl | rfl <;> rfl
theorem cellRefs_sub : cellRefs d L ⊆ ownCells (thr d L) := by
  intro g hg
  obtain ⟨r, hr, rfl⟩ := Finset.mem_map.mp hg
  exact mem_ownCells.mpr ⟨rfl, cells_scoped r hr⟩

omit [FloatOps F] [Named F] in
theorem ownBufs_V :
    (ownBufs (thr d L) : sProp 𝕄)
      = iprop(((∃ f, zB.view.loc (thr d L) ↦{fullShare} f) ∗ (∃ f, muB.view.loc (thr d L) ↦{fullShare} f) ∗ (∃ f, lvB.view.loc (thr d L) ↦{fullShare} f) ∗ (∃ f, oB.view.loc (thr d L) ↦{fullShare} f)
          ∗ (∃ f, aB.view.loc (thr d L) ↦{fullShare} f) ∗ (∃ f, cB.view.loc (thr d L) ↦{fullShare} f) ∗ (∃ f, dB.view.loc (thr d L) ↦{fullShare} f) ∗ (∃ f, wB.view.loc (thr d L) ↦{fullShare} f))
          ∗ bigSep (ownRefs (τ := τ) (.scVector (cV L) (jV L)) \ bufRefs L) fun b => iprop(∃ f, ((d, b) : Loc nD τ sig) ↦{fullShare} f)) := by
  unfold SparseCore.Cfg.ownBufs
  refine (BI.bigSep_sdiff_split (bufRefs_sub L)).trans ?_
  rw [bufRefs, BI.bigSep_map, bufs, SparseCore.bigSep_insert' buf_new0, SparseCore.bigSep_insert' buf_new1, SparseCore.bigSep_insert' buf_new2, SparseCore.bigSep_insert' buf_new3,
    SparseCore.bigSep_insert' buf_new4, SparseCore.bigSep_insert' buf_new5, SparseCore.bigSep_insert' buf_new6, bigSep_singleton]
  rfl

omit [FloatOps F] [Named F] in
theorem ownSems0_V :
    (ownSems0 (thr d L) : sProp 𝕄)
      = iprop((semVal ((thr d L), .dma cc0_scoped0.sem) 0 ∗ semVal ((thr d L), .dma cc0_scoped1.sem) 0 ∗ semVal ((thr d L), .dma cc0_scoped2.sem) 0 ∗ semVal ((thr d L), .dma cc0_scoped3.sem) 0
          ∗ semVal ((thr d L), .dma cc0_scoped4.sem) 0) ∗ bigSep (ownCells (thr d L) \ cellRefs d L) fun g => semVal g 0) := by
  unfold SparseCore.Cfg.ownSems0
  refine (BI.bigSep_sdiff_split (cellRefs_sub d L)).trans ?_
  rw [cellRefs, BI.bigSep_map, cells, SparseCore.bigSep_insert' cell_new0, SparseCore.bigSep_insert' cell_new1, SparseCore.bigSep_insert' cell_new2, SparseCore.bigSep_insert' cell_new3,
    bigSep_singleton]
  rfl

/-! ## The body -/

variable (fz : Buf (Elt F) (zLoc d)) (fmu : Buf (Elt F) (muLoc d)) (flv : Buf (Elt F) (lvLoc d)) (fw : Buf (Elt F) (wLoc d)) (fo : Buf (Elt F) (oLoc d))

omit [FloatOps F] [Named F] in
/-- The results' block after the copy out, at any array whose block is what was copied. -/
theorem out_congr (go : Buf (Elt F) (oB.view.loc (thr d L))) (g : Buf (Elt F) (oLoc d)) (h : ∀ y, go y = tileZ (F := F) g (widL L) y) :
    ((oBlkK L).view.loc (thr d L) ↦[(oBlkK L).view.set]{fullShare} (oBlkK L).view.writes (Elt F) fo [⟨Rect.whole S16x128, oB.view.read (Elt F) go⟩] : sProp 𝕄)
      = (oBlkK L).view.loc (thr d L) ↦[(oBlkK L).view.set]{fullShare} g := by
  refine pointsTo_congr fun p hp => ?_
  obtain ⟨y, -, rfl⟩ := Finset.mem_map.mp hp
  have e (x : S16x128.Idx) : (Rect.whole S16x128).emb x = x := by
    funext a
    exact Fin.ext (by show 0 + 1 * (x a).val = (x a).val; omega)
  have h1 : (oBlkK L).view.read (Elt F) ((oBlkK L).view.writes (Elt F) fo [⟨Rect.whole S16x128, oB.view.read (Elt F) go⟩]) y = go y :=
    View.read_writes_apply_of_pieces (oBlkK L).view fo go _ (fun p hp x => by
      obtain rfl := List.mem_singleton.mp hp
      exact congrArg go (e x).symm) y ⟨_, List.mem_singleton.mpr rfl, by
      show y ∈ (Rect.whole S16x128).set
      rw [Rect.set_whole]; exact Finset.mem_univ _⟩
  exact h1.trans ((h y).trans (congrFun (read_oBlkK L g) y).symm)

/-- What a tile is handed: its block of the points and of the results, a share of each table. -/
def tileIn (i : Fin 32) : sProp 𝕄 :=
  iprop((zLoc d ↦[blkSet i]{fullShare} fz) ∗ (muLoc d ↦{sh i} fmu) ∗ (lvLoc d ↦{sh i} flv) ∗ (wLoc d ↦{sh i} fw) ∗ (oLoc d ↦[blkSet i]{fullShare} fo))

/-- The rows done before trip `n`. -/
def rowsInv (L : grid0.Coords) (gz : Buf (Elt F) (zB.view.loc (thr d L))) (gmu : Buf (Elt F) (muB.view.loc (thr d L))) (glv : Buf (Elt F) (lvB.view.loc (thr d L)))
    (gw : Buf (Elt F) (wB.view.loc (thr d L))) (lse : V16 F) (n : Nat) : sProp 𝕄 :=
  iprop(∃ go : Buf (Elt F) (oB.view.loc (thr d L)), rowRes d L gz gmu glv gw go ∗ ⌜∀ (r : Fin 16) c, r.val < n → rowC (F := F) go r c = rowOut d L gz gmu glv gw lse r c⌝)

theorem rows_region (gz : Buf (Elt F) (zB.view.loc (thr d L))) (gmu : Buf (Elt F) (muB.view.loc (thr d L))) (glv : Buf (Elt F) (lvB.view.loc (thr d L)))
    (gw : Buf (Elt F) (wB.view.loc (thr d L))) (v79 v159 : FVec F S16 .f32) (v160 : IVec S16 32) (v161 v162 : FVec F S8 .f32) (t : Fin k0_t1_loop.trips) :
    rowsInv d L gz gmu glv gw (k0_pay1 v79 v159 v160 v161 v162) t.val
      ⊢ wp frame (wpE (defs₀ (F := F)) 𝒱₀ (thr d L) none) Set.univ (rowProg L v79 v159 v160 v161 v162 t)
        fun _ => rowsInv d L gz gmu glv gw (k0_pay1 v79 v159 v160 v161 v162) (t.val + 1) := by
  unfold rowsInv
  iintro ⟨%go, HR, %hgo⟩
  iapply ((row_trip d L gz gmu glv gw v79 v159 v160 v161 v162 t go).trans (wp_mono _ _ _ fun _ => ?_))
  rotate_left
  · iexact HR
  iintro ⟨%fo', HR, %h⟩
  iexists fo'
  isplitl [HR]; · iexact HR
  ipureintro
  intro r c hr
  rw [h r c]
  split
  · rfl
  · exact hgo r c (by omega)

set_option maxHeartbeats 8000000 in
theorem tile_body (hF : (K (F := F)).Facts) (O : CellTallies nD τ sig (HIx 1)) (W : Waits sig (HIx 1)) (hO : ∀ g, O g none = 0) :
    iprop(levAts (K (F := F)).L (K (F := F)).lev ∗ emp ∗ tileIn d fz fmu flv fw fo (widL L)
        ∗ scopedBufs (thr d L) ∗ scopedSems0 (thr d L) ∗ owes (thr d L) O W)
      ⊢ wp frame (wpE (defs₀ (F := F)) 𝒱₀ (thr d L) none) Set.univ
          (cc0__sc_body (F := F) L zH (Memref.isWhole_whole _) muH (Memref.isWhole_whole _) lvH (Memref.isWhole_whole _) wH (Memref.isWhole_whole _) oH (Memref.isWhole_whole _)
            zB (Memref.isWhole_whole _) muB (Memref.isWhole_whole _) lvB (Memref.isWhole_whole _) oB (Memref.isWhole_whole _) aB (Memref.isWhole_whole _) cB (Memref.isWhole_whole _)
            dB (Memref.isWhole_whole _) wB (Memref.isWhole_whole _) cc0_scoped0 cc0_scoped1 cc0_scoped2 cc0_scoped3 cc0_scoped4)
          fun _ => iprop(tileIn d fz fmu flv fw (scOut fz fmu flv fw) (widL L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  rw [cc0__sc_body_eq_skeleton]
  unfold cc0__sc_body_skel tileIn
  iintro ⟨#Hlev, -, ⟨Hz, Hmu, Hlv, Hw, Ho⟩, ⟨⟨⟨%bz, Bz⟩, ⟨%bmu, Bmu⟩, ⟨%blv, Blv⟩, ⟨%bo, Bo⟩, ⟨%ba, Ba⟩, ⟨%bc, Bc⟩, ⟨%bd, Bd⟩, ⟨%bw, Bw⟩⟩, Hbufs⟩, ⟨⟨S0, S1, S2, S3, S4⟩, Hsems⟩, HO⟩
  ihave Hmw := (show levAts (K (F := F)).L (K (F := F)).lev ⊢ Transfers.MayWaits (thr d L) (default : HIx 1) O from
    (K (F := F)).mayWaits_none (thr := thr d L) hO) $$ Hlev
  ihave Hz := (Entails.of_eq (pts_zBlkK (F := F) d L _).symm) $$ Hz
  ihave Ho := (Entails.of_eq (pts_oBlkK (F := F) d L _).symm) $$ Ho
  ihave Hmu := (show (muLoc d ↦{sh (widL L)} fmu : sProp 𝕄) ⊢ muH.view.loc (thr d L) ↦{sh (widL L)} fmu from .rfl) $$ Hmu
  ihave Hlv := (show (lvLoc d ↦{sh (widL L)} flv : sProp 𝕄) ⊢ lvH.view.loc (thr d L) ↦{sh (widL L)} flv from .rfl) $$ Hlv
  ihave Hw := (show (wLoc d ↦{sh (widL L)} fw : sProp 𝕄) ⊢ wH.view.loc (thr d L) ↦{sh (widL L)} fw from .rfl) $$ Hw
  sl_exec
  generalize ez : (View.write (Elt F) zB.view bz _ Finset.univ : Buf (Elt F) (zB.view.loc (thr d L))) = gz
  generalize emu : (View.write (Elt F) muB.view bmu _ Finset.univ : Buf (Elt F) (muB.view.loc (thr d L))) = gmu
  generalize elv : (View.write (Elt F) lvB.view blv _ Finset.univ : Buf (Elt F) (lvB.view.loc (thr d L))) = glv
  generalize ew : (View.write (Elt F) wB.view bw _ Finset.univ : Buf (Elt F) (wB.view.loc (thr d L))) = gw
  have ez' : gz = tileZ (F := F) fz (widL L) := ez.symm.trans ((View.write_whole_univ _ _ _).trans (read_zBlkK L fz))
  have emu' : gmu = tileM (F := F) fmu (widL L) := emu.symm.trans ((View.write_whole_univ _ _ _).trans (read_grp L fmu))
  have elv' : glv = tileM (F := F) flv (widL L) := elv.symm.trans ((View.write_whole_univ _ _ _).trans (read_grp L flv))
  have ew' : gw = fw := ew.symm.trans (View.write_whole_univ _ _ _)
  have e27 : tile_body.sl.v27 d L fw bw = maximumf (maximumf (maximumf (maximumf (maximumf (maximumf (maximumf (c16 (rawTab wB.view gw 0)) (c16 (rawTab wB.view gw 1))) (c16 (rawTab wB.view gw 2))) (c16 (rawTab wB.view gw 3))) (c16 (rawTab wB.view gw 4))) (c16 (rawTab wB.view gw 5))) (c16 (rawTab wB.view gw 6))) (c16 (rawTab wB.view gw 7)) := by rw [← ew]; rfl
  have e40 : tile_body.sl.v40 d L fw bw = maximumf (tile_body.sl.v27 d L fw bw) (shuf1 (tile_body.sl.v27 d L fw bw)) := rfl
  have e53 : tile_body.sl.v53 d L fw bw = maximumf (tile_body.sl.v40 d L fw bw) (shuf2 (tile_body.sl.v40 d L fw bw)) := rfl
  have e66 : tile_body.sl.v66 d L fw bw = maximumf (tile_body.sl.v53 d L fw bw) (shuf4 (tile_body.sl.v53 d L fw bw)) := rfl
  have e79 : tile_body.sl.v79 d L fw bw = maximumf (tile_body.sl.v66 d L fw bw) (shuf8 (tile_body.sl.v66 d L fw bw)) := rfl
  have hmax : tile_body.sl.v79 d L fw bw = wmaxV (rawTab wB.view gw) := by rw [e79, e66, e53, e40, e27]; rfl
  have x (c : Fin 8) : exp (subf (c16 (rawTab wB.view gw c)) (tile_body.sl.v79 d L fw bw)) = wexp (rawTab wB.view gw) c := by rw [hmax]; rfl
  have e120 : tile_body.sl.v120 d L fw bw = addf (addf (addf (addf (addf (addf (addf (addf (k16 0x00000000#32) (exp (subf (c16 (rawTab wB.view gw 0)) (tile_body.sl.v79 d L fw bw)))) (exp (subf (c16 (rawTab wB.view gw 1)) (tile_body.sl.v79 d L fw bw)))) (exp (subf (c16 (rawTab wB.view gw 2)) (tile_body.sl.v79 d L fw bw)))) (exp (subf (c16 (rawTab wB.view gw 3)) (tile_body.sl.v79 d L fw bw)))) (exp (subf (c16 (rawTab wB.view gw 4)) (tile_body.sl.v79 d L fw bw)))) (exp (subf (c16 (rawTab wB.view gw 5)) (tile_body.sl.v79 d L fw bw)))) (exp (subf (c16 (rawTab wB.view gw 6)) (tile_body.sl.v79 d L fw bw)))) (exp (subf (c16 (rawTab wB.view gw 7)) (tile_body.sl.v79 d L fw bw))) := by
    rw [← ew]; rfl
  have e133 : tile_body.sl.v133 d L fw bw = addf (tile_body.sl.v120 d L fw bw) (shuf1 (tile_body.sl.v120 d L fw bw)) := rfl
  have e146 : tile_body.sl.v146 d L fw bw = addf (tile_body.sl.v133 d L fw bw) (shuf2 (tile_body.sl.v133 d L fw bw)) := rfl
  have e159 : tile_body.sl.v159 d L fw bw = addf (tile_body.sl.v146 d L fw bw) (shuf4 (tile_body.sl.v146 d L fw bw)) := rfl
  have hl : k0_pay1 (tile_body.sl.v79 d L fw bw) (tile_body.sl.v159 d L fw bw) tile_body.sl.v28 (tile_body.sl.v161 d L fw bw) (tile_body.sl.v162 d L fw bw)
      = lseV (rawTab wB.view gw) := by
    refine (show _ = addf (tile_body.sl.v79 d L fw bw) (log (addf (tile_body.sl.v159 d L fw bw) (shuf8 (tile_body.sl.v159 d L fw bw)))) from rfl).trans ?_
    rw [e159, e146, e133, e120, x, x, x, x, x, x, x, x, hmax]
    rfl
  have hl' : lseV (rawTab (F := F) wB.view gw) = lseV (tabC (F := F) fw) := congrArg lseV ((rawTab_eq wB.view gw).trans (congrArg (tabC (F := F)) ew'))
  clear ez emu elv ew
  sl_for (fun n _ => rowsInv d L gz gmu glv gw (k0_pay1 (tile_body.sl.v79 d L fw bw) (tile_body.sl.v159 d L fw bw) tile_body.sl.v28 (tile_body.sl.v161 d L fw bw) (tile_body.sl.v162 d L fw bw)) n)
    $$ [Bz Bmu Blv Bw Bo Ba Bc Bd]
  case region =>
    intro k s
    exact rows_region d L gz gmu glv gw (tile_body.sl.v79 d L fw bw) (tile_body.sl.v159 d L fw bw) tile_body.sl.v28 (tile_body.sl.v161 d L fw bw) (tile_body.sl.v162 d L fw bw) k
  · unfold rowsInv rowRes tabs
    iexists bo
    isplitl
    · isplitl [Bz]; · iexact Bz
      isplitl [Bmu]; · iexact Bmu
      isplitl [Blv]; · iexact Blv
      isplitl [Bw]; · iexact Bw
      isplitl [Bo]; · iexact Bo
      iexists ba; iexists bc; iexists bd
      isplitl [Ba]; · iexact Ba
      isplitl [Bc]; · iexact Bc
      iexact Bd
    ipureintro
    intro r c h
    exact absurd h (Nat.not_lt_zero _)
  iintro %s HI
  unfold rowsInv rowRes tabs
  icases HI with ⟨%go, ⟨Bz, Bmu, Blv, Bw, Bo, %fa, %fc, %fd, Ba, Bc, Bd⟩, %hgo⟩
  rw [hl, hl', ez', emu', elv', ew'] at hgo
  have hval : ∀ y, go y = tileZ (F := F) (scOut (F := F) fz fmu flv fw) (widL L) y := fun y => by
    have h := congrFun (hgo (y 0) (chunkOf (y 1)) (y 0).isLt) (ix1 (laneOf (y 1)))
    refine (congrArg go ?_).trans h
    funext a
    match a with
    | 0 => rfl
    | 1 => exact (at16_chunkOf (y 1)).symm
  sl_exec
  sl_step
  isplitl [Hz Hmu Hlv Hw Ho]
  · isplitl [Hz]; · iapply (Entails.of_eq (pts_zBlkK (F := F) d L _)); iexact Hz
    isplitl [Hmu]; · iexact Hmu
    isplitl [Hlv]; · iexact Hlv
    isplitl [Hw]; · iexact Hw
    iapply (Entails.of_eq (pts_oBlkK (F := F) d L _))
    iapply (Entails.of_eq (out_congr d L fo go (scOut (F := F) fz fmu flv fw) hval))
    iexact Ho
  isplitl [Bz Bmu Blv Bw Bo Ba Bc Bd Hbufs]
  · isplitr [Hbufs]
    · isplitl [Bz]; · iexists _; iexact Bz
      isplitl [Bmu]; · iexists _; iexact Bmu
      isplitl [Blv]; · iexists _; iexact Blv
      isplitl [Bo]; · iexists _; iexact Bo
      isplitl [Ba]; · iexists _; iexact Ba
      isplitl [Bc]; · iexists _; iexact Bc
      isplitl [Bd]; · iexists _; iexact Bd
      iexists _; iexact Bw
    iexact Hbufs
  isplitl [S0 S1 S2 S3 S4 Hsems]
  · isplitr [Hsems]
    · isplitl [S0]; · iexact S0
      isplitl [S1]; · iexact S1
      isplitl [S2]; · iexact S2
      isplitl [S3]; · iexact S3
      iexact S4
    iexact Hsems
  iexists _; isplitr
  swap; · iexact HO
  ipureintro; intro p _
  rcases p.2 with _ | q
  · exact .inr (.inl rfl)
  · exact .inr (.inr (congrArg some (Subsingleton.elim q 0)))
end Tile
end Cert.Proof.Mix
-- ==== Proof.Launch.lean ====
/- The SparseCore call: what it is handed, how that is dealt to the tiles, and what it hands back. -/
module

public import proofs.«01_k».proof.Proof.Tile

@[expose] public section

set_option maxRecDepth 16384

noncomputable section

namespace Cert.Proof.Mix

open Cert.KernelIdeal Cert.KernelIdeal.Gen Cert.Proof.Trips
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F] [Named F]

local notation "𝕄" => MT nD τ sig (HIx 1) (Elt F) ℕ UU ℕ

abbrev EH : Emb UH (MT nD τ sig (HIx 1) (Elt F) ℕ UU ℕ) := embL

section Launch
variable (fz : ∀ d : Dev nD, Buf (Elt F) (zLoc d)) (fmu : ∀ d : Dev nD, Buf (Elt F) (muLoc d)) (flv : ∀ d : Dev nD, Buf (Elt F) (lvLoc d)) (fw : ∀ d : Dev nD, Buf (Elt F) (wLoc d))
  (fo : ∀ d : Dev nD, Buf (Elt F) (oLoc d))

theorem nCore_zero : (K (F := F)).nCore 0 = 2 := rfl
/-- The block of tile `i` of the call's SparseCore `c`. -/
abbrev widC (c : Fin ((K (F := F)).nCore 0)) (i : Fin ((K (F := F)).nSub 0)) : Fin 32 := wid (Fin.cast nCore_zero c) (Fin.cast nSub_zero i)

/-- What a tile is handed and what it hands back. -/
abbrev goT (d : Dev nD) (i : Fin 32) : sProp 𝕄 := tileIn d (fz d) (fmu d) (flv d) (fw d) (fo d) i
abbrev tdT (d : Dev nD) (i : Fin 32) : sProp 𝕄 := tileIn d (fz d) (fmu d) (flv d) (fw d) (scOut (F := F) (fz d) (fmu d) (flv d) (fw d)) i

instance tileIn_storable (d : Dev nD) (gz : Buf (Elt F) (zLoc d)) (gmu : Buf (Elt F) (muLoc d)) (glv : Buf (Elt F) (lvLoc d)) (gw : Buf (Elt F) (wLoc d)) (go : Buf (Elt F) (oLoc d)) (i : Fin 32) :
    BI.Storable (upEmb : UEmb _ 𝕄) (tileIn d gz gmu glv gw go i) := by
  unfold tileIn; infer_instance

/-- The call hands each SparseCore its sixteen tiles' parts and takes them back with the results in place. -/
def P : (K (F := F)).Pay (nD := nD) (Val := Elt F) (Name := ℕ) (U := UU) where
  st := fun q d c => match q with | 0 => bigSep Finset.univ fun i => goT fz fmu flv fw fo d (widC (F := F) c i)
  dn := fun q d c => match q with | 0 => bigSep Finset.univ fun i => tdT fz fmu flv fw d (widC (F := F) c i)
  go := fun q d c i => match q with | 0 => goT fz fmu flv fw fo d (widC (F := F) c i)
  td := fun q d c i => match q with | 0 => tdT fz fmu flv fw d (widC (F := F) c i)
  x := fun _ _ => iprop(emp)

instance P_storable : (P (F := F) fz fmu flv fw fo).IsStorable where
  st q d c := match q with | 0 => (inferInstance : BI.Storable (upEmb : UEmb _ 𝕄) (bigSep Finset.univ fun i => goT fz fmu flv fw fo d (widC (F := F) c i)))
  dn q d c := match q with | 0 => (inferInstance : BI.Storable (upEmb : UEmb _ 𝕄) (bigSep Finset.univ fun i => tdT fz fmu flv fw d (widC (F := F) c i)))
  go q d c i := match q with | 0 => (inferInstance : BI.Storable (upEmb : UEmb _ 𝕄) (goT fz fmu flv fw fo d (widC (F := F) c i)))
  td q d c i := match q with | 0 => (inferInstance : BI.Storable (upEmb : UEmb _ 𝕄) (tdT fz fmu flv fw d (widC (F := F) c i)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (F := F) (coordsV c s) zH (Memref.isWhole_whole _) muH (Memref.isWhole_whole _) lvH (Memref.isWhole_whole _) wH (Memref.isWhole_whole _) oH (Memref.isWhole_whole _)
            zB (Memref.isWhole_whole _) muB (Memref.isWhole_whole _) lvB (Memref.isWhole_whole _) oB (Memref.isWhole_whole _) aB (Memref.isWhole_whole _) cB (Memref.isWhole_whole _)
            dB (Memref.isWhole_whole _) wB (Memref.isWhole_whole _) cc0_scoped0 cc0_scoped1 cc0_scoped2 cc0_scoped3 cc0_scoped4) ⟨⟩ c s := rfl

theorem tileObl (hF : (K (F := F)).Facts) : (K (F := F)).TileObl (D (F := F)) 𝒱 (P fz fmu flv fw fo) v₀ 0 := by
  intro d c i O W hO _ _
  simp only [show (P fz fmu flv fw fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (fz d) (fmu d) (flv d) (fw d) (fo d) hF O W hO

theorem vecSplit : (K (F := F)).VecSplit' (P fz fmu flv fw fo) 0 := by
  intro d c
  show (bigSep Finset.univ fun i => goT fz fmu flv fw fo d (widC (F := F) c i)) ⊢ |={Set.univ}=> iprop(
      (bigSep Finset.univ fun i => goT fz fmu flv fw fo d (widC (F := F) c i))
      ∗ ((bigSep Finset.univ fun i => tdT fz fmu flv fw d (widC (F := F) c i)) -∗ (bigSep Finset.univ fun i => tdT fz fmu flv fw d (widC (F := F) c i))))
  iintro H; imodintro
  isplitl [H]; · iexact H
  iintro H; iexact H

end Launch

/-! ## The arrays whole, and dealt to the thirty-two tiles -/

theorem blkSet_eq (i : Fin 32) : blkSet i = (blk i).set := by
  show ((View.whole (main_v5_scv : Ref sig .scVector)).slice (blk i)).set = _
  rw [View.set_slice]; exact Finset.map_refl
theorem blks_disjoint : ∀ i ∈ (Finset.univ : Finset (Fin 32)), ∀ j ∈ (Finset.univ : Finset (Fin 32)), i ≠ j → Disjoint (blkSet i) (blkSet j) :=
  fun i _ j _ h => by rw [blkSet_eq, blkSet_eq]; exact Rect.part_disjoint hdiv h
theorem blks_cover : (Finset.univ : Finset (Fin 32)).biUnion blkSet = Finset.univ :=
  (Finset.biUnion_congr rfl fun i _ => blkSet_eq i).trans (Rect.biUnion_part hdiv)

theorem zPts_blks (d : Dev nD) (f : Buf (Elt F) (zLoc d)) :
    (zLoc d ↦{fullShare} f : sProp 𝕄) = bigSep Finset.univ fun i : Fin 32 => zLoc d ↦[blkSet i]{fullShare} f := by
  rw [← pointsTo_biUnion Finset.univ (ℓ := zLoc d) blkSet blks_disjoint, blks_cover]; try rfl
theorem oPts_blks (d : Dev nD) (f : Buf (Elt F) (oLoc d)) :
    (oLoc d ↦{fullShare} f : sProp 𝕄) = bigSep Finset.univ fun i : Fin 32 => oLoc d ↦[blkSet i]{fullShare} f := by
  rw [← pointsTo_biUnion Finset.univ (ℓ := oLoc d) blkSet blks_disjoint, blks_cover]; try rfl

/-- The five arrays whole are the thirty-two tiles' parts. -/
theorem tiles_eq (d : Dev nD) (gz : Buf (Elt F) (zLoc d)) (gmu : Buf (Elt F) (muLoc d)) (glv : Buf (Elt F) (lvLoc d)) (gw : Buf (Elt F) (wLoc d)) (go : Buf (Elt F) (oLoc d)) :
    (bigSep Finset.univ fun i : Fin 32 => tileIn d gz gmu glv gw go i)
      = (iprop((zLoc d ↦{fullShare} gz) ∗ (muLoc d ↦{fullShare} gmu) ∗ (lvLoc d ↦{fullShare} glv) ∗ (wLoc d ↦{fullShare} gw) ∗ (oLoc d ↦{fullShare} go)) : sProp 𝕄) := by
  unfold tileIn
  rw [bigSep_sep', bigSep_sep', bigSep_sep', bigSep_sep', ← zPts_blks, ← oPts_blks,
    ShareLeaves.pointsTo_leaves (ℓ := muLoc d) Finset.univ gmu 5 fullShare, ShareLeaves.pointsTo_leaves (ℓ := lvLoc d) Finset.univ glv 5 fullShare, ShareLeaves.pointsTo_leaves (ℓ := wLoc d) Finset.univ gw 5 fullShare]
  rfl

/-- The tiles by SparseCore. -/
def tileEquiv : Fin 2 × Fin 16 ≃ Fin 32 where
  toFun p := wid p.1 p.2
  invFun i := (⟨i.val / 16, by omega⟩, ⟨i.val % 16, by omega⟩)
  left_inv p := Prod.ext (Fin.ext (by show (16 * p.1.val + p.2.val) / 16 = p.1.val; omega)) (Fin.ext (by show (16 * p.1.val + p.2.val) % 16 = p.2.val; omega))
  right_inv i := Fin.ext (by show 16 * (i.val / 16) + i.val % 16 = i.val; omega)

theorem cores_eq (Φ : Fin 32 → sProp 𝕄) :
    (bigSep Finset.univ fun c : Fin ((K (F := F)).nCore 0) => bigSep Finset.univ fun i : Fin ((K (F := F)).nSub 0) => Φ (widC (F := F) c i)) = bigSep Finset.univ Φ := by
  rw [bigSep_univ_equiv tileEquiv Φ, bigSep_univ_prod]
  rfl

end Cert.Proof.Mix
-- ==== Proof.Tensor.lean ====
/- The grid kernel: what one step leaves in its output block, as a function of the blocks it reads, and its run. -/
module

public import proofs.«01_k».proof.Proof.Chunks
public import proofs.«01_k».proof.Proof.Gen.KernelIdeal.Points

@[expose] public section

set_option maxRecDepth 16384

noncomputable section

namespace Cert.Proof.Mix

open Cert.KernelIdeal Cert.KernelIdeal.Gen Cert.Proof.Trips
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The values -/

abbrev TT (F : FTy → Type) : Type := Vec F S128x128 .f32
abbrev T1 (F : FTy → Type) : Type := Vec F S1x128 .f32
abbrev TZ (F : FTy → Type) : Type := Vec F S64x128 .f32

/-- A table's row. -/
def rowT (A : TT F) (k : Fin 128) : T1 F := fun x => A fun a => match a with | 0 => k | 1 => x 1

/-- `n` rows folded. -/
def iter128 {α : Type} (f : Fin 128 → α → α) (s : α) : Nat → α
  | 0 => s
  | n + 1 => if h : n < 128 then f ⟨n, h⟩ (iter128 f s n) else iter128 f s n

/-- The tables the first step writes: the quadratic, the linear and the constant coefficient, and the column's shift. -/
def tA (lv : TT F) : TT F := k1_pay18 lv
def tC (mu lv : TT F) : TT F := k1_pay19 mu lv
def tD (w : T1 F) (mu lv : TT F) : TT F := k1_pay1 mu (k1_pay15 lv) (k1_pay16 lv w) (k1_pay17 lv w)
def tM0 (w : T1 F) (lv : TT F) : T1 F := k1_pay2 (k1_pay17 lv w)

/-- The three folds over the tables' rows. -/
def tSum (A C D : TT F) (z : TZ F) (n : Nat) : TZ F := iter128 (fun k s => k1_pay6 z s (rowT A k) (rowT C k) (rowT D k)) k1_pay5 n
def tMax (A C D : TT F) (z : TZ F) (n : Nat) : TZ F := iter128 (fun k s => k1_pay10 z s (rowT A k) (rowT C k) (rowT D k)) k1_pay9 n
def tSumM (A C D : TT F) (z : TZ F) (n : Nat) : TZ F := iter128 (fun k s => k1_pay12 z (tMax A C D z 128) s (rowT A k) (rowT C k) (rowT D k)) k1_pay11 n

/-- Whether some sum of the block is too small to take its logarithm. -/
def tBad (s : TZ F) : Prop := Scalar.cmpi .ne (Scalar.extui (Scalar.cmpf (F := F) .ogt (k1_pay8 s) (Scalar.ofBits .f32 0x00000000#32)) : BitVec 32) 0#32 = 1#1

open Classical in
/-- The output block from the tables and the block of samples. -/
def tOut (A C D : TT F) (m0 : T1 F) (z : TZ F) : TZ F :=
  if tBad (tSum A C D z 128) then k1_pay13 m0 (tMax A C D z 128) (tSumM A C D z 128) else k1_pay7 (tSum A C D z 128) m0

/-! ## The offsets and the reads -/

theorem k1_off1_eq (k : Fin k1_t1_loop.trips) : k1_off1 k = ![k.val, 0] := (by decide +kernel : ∀ k, k1_off1 k = ![k.val, 0]) k
theorem k1_off2_eq (k : Fin k1_t2_loop.trips) : k1_off2 k = ![k.val, 0] := (by decide +kernel : ∀ k, k1_off2 k = ![k.val, 0]) k
theorem k1_off3_eq (k : Fin k1_t3_loop.trips) : k1_off3 k = ![k.val, 0] := (by decide +kernel : ∀ k, k1_off3 k = ![k.val, 0]) k

omit [FloatOps F] [Named F] in
theorem readAt_rowT {κ : Kind} {sp : Space} (v : View sig κ sp S128x128 .f32) (f : v.ty.Contents (Elt F)) (k : Fin 128) (off : Fin 2 → ℕ) (h : off = ![k.val, 0])
    (inb : ∀ a, off a + S1x128.size a ≤ S128x128.size a) :
    v.readAt (Elt F) (Rect.unit (s := S128x128) off S1x128.size inb).toLoadRect f = rowT (v.read (Elt F) f) k := by
  subst h
  funext i
  rw [View.readAt_apply]
  refine congrArg _ ?_
  funext a
  match a with
  | 0 =>
    have h0 : (i 0).val = 0 := by have := (i 0).isLt; exact Nat.lt_one_iff.mp this
    exact Fin.ext (by show k.val + 1 * (i 0).val = k.val; omega)
  | 1 => exact Fin.ext (by show 0 + 1 * (i 1).val = (i 1).val; omega)

omit [FloatOps F] [Named F] in
/-- A load of everything a view shows. -/
theorem readAt_full {κ : Kind} {sp : Space} {s : Shape} (v : View sig κ sp s .f32) (f : v.ty.Contents (Elt F)) (off : Fin s.rank → ℕ) (h : ∀ a, off a = 0)
    (inb : ∀ a, off a + s.size a ≤ s.size a) :
    v.readAt (Elt F) (Rect.unit off s.size inb).toLoadRect f = v.read (Elt F) f := by
  funext i
  rw [View.readAt_apply]
  refine congrArg _ ?_
  funext a
  exact Fin.ext (by show off a + 1 * (i a).val = (i a).val; rw [h a]; omega)

omit [FloatOps F] [Named F] in
/-- A store over everything a view shows leaves what it stored. -/
theorem read_cons_full {κ : Kind} {sp : Space} {s : Shape} (v : View sig κ sp s .f32) (f : v.ty.Contents (Elt F)) (L : List (View.Piece (Elt F) s .f32))
    (off : Fin s.rank → ℕ) (h : ∀ a, off a = 0) (inb : ∀ a, off a + s.size a ≤ s.size a) (w : Vec F s .f32) :
    v.read (Elt F) (v.writes (Elt F) f (⟨Rect.unit off s.size inb, w⟩ :: L)) = w := by
  funext i
  exact View.read_writes_cons_hit_of_coords v f (Rect.unit off s.size inb) w L i _ (fun a => by
    show (i a).val = off a + 1 * (i a).val
    rw [h a]; omega)

omit [FloatOps F] [Named F] in
theorem zeros2 : ∀ a : Fin 2, (![0, 0] : Fin 2 → ℕ) a = 0 := by decide

omit [FloatOps F] [Named F] in
theorem iter128_succ {α : Type} (f : Fin 128 → α → α) (s : α) (k : Fin 128) : iter128 f s (k.val + 1) = f k (iter128 f s k.val) := by
  show (if h : k.val < 128 then f ⟨k.val, h⟩ (iter128 f s k.val) else iter128 f s k.val) = _
  rw [dif_pos k.isLt]

section Loops
abbrev sA : Memref sig .tc .vmem S128x128 .f32 := Memref.whole cc1_scratch0
abbrev sC : Memref sig .tc .vmem S128x128 .f32 := Memref.whole cc1_scratch1
abbrev sD : Memref sig .tc .vmem S128x128 .f32 := Memref.whole cc1_scratch2
abbrev sM : Memref sig .tc .vmem S1x128 .f32 := Memref.whole cc1_scratch3

variable (d : Dev nD) (fa : TT F) (fc : TT F) (fd : TT F)

/-- The three coefficient tables of the grid kernel, held whole. -/
def tabsT : sProp 𝕄 :=
  iprop((sA.view.loc (T d) ↦{fullShare} (fa : Buf (Elt F) (sA.view.loc (T d)))) ∗ (sC.view.loc (T d) ↦{fullShare} (fc : Buf (Elt F) (sC.view.loc (T d)))) ∗ (sD.view.loc (T d) ↦{fullShare} (fd : Buf (Elt F) (sD.view.loc (T d)))))

/-- Before trip `n` of a fold over rows. -/
def foldInvT (step : T1 F → T1 F → T1 F → TZ F → TZ F) (s₀ : TZ F) (n : Nat) (s : TZ F) : sProp 𝕄 :=
  iprop(⌜s = iter128 (fun k => step (rowT fa k) (rowT fc k) (rowT fd k)) s₀ n⌝ ∗ tabsT d fa fc fd)

omit [FloatOps F] [Named F] in
theorem fold_stepT (step : T1 F → T1 F → T1 F → TZ F → TZ F) (s₀ s : TZ F) (n : Nat) (hn : n < 128) (A C D : T1 F)
    (hA : A = rowT fa ⟨n, hn⟩) (hC : C = rowT fc ⟨n, hn⟩) (hD : D = rowT fd ⟨n, hn⟩)
    (hs : s = iter128 (fun k => step (rowT fa k) (rowT fc k) (rowT fd k)) s₀ n) :
    step A C D s = iter128 (fun k => step (rowT fa k) (rowT fc k) (rowT fd k)) s₀ (n + 1) := by
  subst hA hC hD hs
  exact (iter128_succ _ _ ⟨n, hn⟩).symm

variable (i : grid1.Coords) (arg1 : Memref sig .tc .vmem S64x128 .f32) (harg1 : arg1.IsWhole) (arg2 : Memref sig .tc .vmem S128x128 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S64x128 .f32) (harg5 : arg5.IsWhole) (h6 : sA.IsWhole) (h7 : sC.IsWhole) (h8 : sD.IsWhole) (h9 : sM.IsWhole)

theorem t1_region (z : TZ F) (k : Fin k1_t1_loop.trips) (s : TZ F) :
    foldInvT d fa fc fd (fun a c d s => k1_pay6 z s a c d) k1_pay5 k.val s
      ⊢ wp frame (wpE (defs₀ (F := F)) 𝒱₀ (T d) none) Set.univ (k1_t1_body i arg1 harg1 arg2 harg2 arg3 harg3 arg4 harg4 arg5 harg5 sA h6 sC h7 sD h8 sM h9 z k s)
        fun r => foldInvT d fa fc fd (fun a c d s => k1_pay6 z s a c d) k1_pay5 (k.val + 1) r := by
  unfold k1_t1_body foldInvT tabsT
  iintro ⟨%hs, Ha, Hc, Hd⟩
  sl_exec
  sl_step
  isplitr
  · ipureintro
    have hk : k.val < 128 := lt_of_lt_of_le k.isLt (by decide)
    exact fold_stepT fa fc fd (fun a c d s => k1_pay6 z s a c d) k1_pay5 s k.val hk _ _ _ (readAt_rowT sA.view fa ⟨k.val, hk⟩ _ (k1_off1_eq k) _) (readAt_rowT sC.view fc ⟨k.val, hk⟩ _ (k1_off1_eq k) _)
      (readAt_rowT sD.view fd ⟨k.val, hk⟩ _ (k1_off1_eq k) _) hs
  isplitl [Ha]; · iexact Ha
  isplitl [Hc]; · iexact Hc
  iexact Hd

theorem t2_region (z : TZ F) (k : Fin k1_t2_loop.trips) (s : TZ F) :
    foldInvT d fa fc fd (fun a c d s => k1_pay10 z s a c d) k1_pay9 k.val s
      ⊢ wp frame (wpE (defs₀ (F := F)) 𝒱₀ (T d) none) Set.univ (k1_t2_body i arg1 harg1 arg2 harg2 arg3 harg3 arg4 harg4 arg5 harg5 sA h6 sC h7 sD h8 sM h9 z k s)
        fun r => foldInvT d fa fc fd (fun a c d s => k1_pay10 z s a c d) k1_pay9 (k.val + 1) r := by
  unfold k1_t2_body foldInvT tabsT
  iintro ⟨%hs, Ha, Hc, Hd⟩
  sl_exec
  sl_step
  isplitr
  · ipureintro
    have hk : k.val < 128 := lt_of_lt_of_le k.isLt (by decide)
    exact fold_stepT fa fc fd (fun a c d s => k1_pay10 z s a c d) k1_pay9 s k.val hk _ _ _ (readAt_rowT sA.view fa ⟨k.val, hk⟩ _ (k1_off2_eq k) _) (readAt_rowT sC.view fc ⟨k.val, hk⟩ _ (k1_off2_eq k) _)
      (readAt_rowT sD.view fd ⟨k.val, hk⟩ _ (k1_off2_eq k) _) hs
  isplitl [Ha]; · iexact Ha
  isplitl [Hc]; · iexact Hc
  iexact Hd

theorem t3_region (z m : TZ F) (k : Fin k1_t3_loop.trips) (s : TZ F) :
    foldInvT d fa fc fd (fun a c d s => k1_pay12 z m s a c d) k1_pay11 k.val s
      ⊢ wp frame (wpE (defs₀ (F := F)) 𝒱₀ (T d) none) Set.univ (k1_t3_body i arg1 harg1 arg2 harg2 arg3 harg3 arg4 harg4 arg5 harg5 sA h6 sC h7 sD h8 sM h9 z m k s)
        fun r => foldInvT d fa fc fd (fun a c d s => k1_pay12 z m s a c d) k1_pay11 (k.val + 1) r := by
  unfold k1_t3_body foldInvT tabsT
  iintro ⟨%hs, Ha, Hc, Hd⟩
  sl_exec
  sl_step
  isplitr
  · ipureintro
    have hk : k.val < 128 := lt_of_lt_of_le k.isLt (by decide)
    exact fold_stepT fa fc fd (fun a c d s => k1_pay12 z m s a c d) k1_pay11 s k.val hk _ _ _ (readAt_rowT sA.view fa ⟨k.val, hk⟩ _ (k1_off3_eq k) _) (readAt_rowT sC.view fc ⟨k.val, hk⟩ _ (k1_off3_eq k) _)
      (readAt_rowT sD.view fd ⟨k.val, hk⟩ _ (k1_off3_eq k) _) hs
  isplitl [Ha]; · iexact Ha
  isplitl [Hc]; · iexact Hc
  iexact Hd

/-- The step after its samples are read: the fold, the write, and the second pass when some sum is small. -/
def tailProg (v3 : TZ F) : Prog (TpuEff nD τ sig (Elt F) Λ₀ .tc) PUnit := do
  let v8 : FVec F S64x128 .f32 ← Scf.Loop.for k1_t1_loop k1_t1_ok (k1_pay5 (F := F)) (k1_t1_body i arg1 harg1 arg2 harg2 arg3 harg3 arg4 harg4 arg5 harg5 sA h6 sC h7 sD h8 sM h9 v3)
  let v9 : Vec F S1x128 .f32 ← Prog.lift (.load sM (Rect.unit (s := S1x128) ![0, 0] S1x128.size inb_S1x128_S1x128_0_0).toLoadRect (View.loadsAt_vmem h_S1x128))
  let v13 : Vec F S64x128 .f32 ← Prog.lift (.load arg5 (Rect.unit (s := S64x128) ![0, 0] S64x128.size inb_S64x128_S64x128_0_0).toLoadRect (View.loadsAt_vmem h_S64x128))
  Prog.lift (.store arg5 (Rect.unit (s := S64x128) ![0, 0] S64x128.size inb_S64x128_S64x128_0_0) (k1_pay7 v8 v9) Finset.univ (View.stores_vmem_bits_univ h_S64x128 rfl) (.inl rfl))
  have cst_12 : F .f32 := Scalar.ofBits .f32 0x00000000#32
  let v23 : BitVec 1 := Scalar.cmpf .ogt (k1_pay8 v8) cst_12
  let v24 : BitVec 32 := Scalar.extui v23
  let v25 : BitVec 1 := Scalar.cmpi .ne v24 0#32
  if v25 = 1#1 then do
    let v28 : FVec F S64x128 .f32 ← Scf.Loop.for k1_t2_loop k1_t2_ok (k1_pay9 (F := F)) (k1_t2_body i arg1 harg1 arg2 harg2 arg3 harg3 arg4 harg4 arg5 harg5 sA h6 sC h7 sD h8 sM h9 v3)
    let v31 : FVec F S64x128 .f32 ← Scf.Loop.for k1_t3_loop k1_t3_ok (k1_pay11 (F := F)) (k1_t3_body i arg1 harg1 arg2 harg2 arg3 harg3 arg4 harg4 arg5 harg5 sA h6 sC h7 sD h8 sM h9 v3 v28)
    let v36 : Vec F S64x128 .f32 ← Prog.lift (.load arg5 (Rect.unit (s := S64x128) ![0, 0] S64x128.size inb_S64x128_S64x128_0_0).toLoadRect (View.loadsAt_vmem h_S64x128))
    Prog.lift (.store arg5 (Rect.unit (s := S64x128) ![0, 0] S64x128.size inb_S64x128_S64x128_0_0) (k1_pay13 v9 v28 v31) Finset.univ (View.stores_vmem_bits_univ h_S64x128 rfl) (.inl rfl))
    pure ⟨⟩
  else do
    pure ⟨⟩
  pure ⟨⟩

/-- What the tail holds at its end. -/
def tailPost (m0 : T1 F) (z : TZ F) : sProp 𝕄 :=
  iprop(tabsT d fa fc fd ∗ (sM.view.loc (T d) ↦{fullShare} (m0 : Buf (Elt F) (sM.view.loc (T d))))
    ∗ ∃ g, ⌜arg5.view.read (Elt F) g = tOut fa fc fd m0 z⌝ ∗ (arg5.view.loc (T d) ↦[arg5.view.set]{fullShare} g))

theorem tail_wp (m0 : T1 F) (z : TZ F) (f5 : arg5.view.ty.Contents (Elt F)) :
    iprop(tabsT d fa fc fd ∗ (sM.view.loc (T d) ↦{fullShare} (m0 : Buf (Elt F) (sM.view.loc (T d)))) ∗ (arg5.view.loc (T d) ↦[arg5.view.set]{fullShare} f5))
      ⊢ wp frame (wpE (defs₀ (F := F)) 𝒱₀ (T d) none) Set.univ (tailProg i arg1 harg1 arg2 harg2 arg3 harg3 arg4 harg4 arg5 harg5 h6 h7 h8 h9 z)
        fun _ => tailPost d fa fc fd arg5 m0 z := by
  unfold tailProg
  iintro ⟨Ht, Hm, H5⟩
  sl_for (foldInvT d fa fc fd (fun a c d s => k1_pay6 z s a c d) k1_pay5) $$ [Ht]
  case region =>
    intro k s
    exact t1_region d fa fc fd i arg1 harg1 arg2 harg2 arg3 harg3 arg4 harg4 arg5 harg5 h6 h7 h8 h9 z k s
  · unfold foldInvT
    isplitr
    · ipureintro; rfl
    iexact Ht
  iintro %s HI
  unfold foldInvT
  icases HI with ⟨%hs, Ht⟩
  have hs' : s = tSum fa fc fd z 128 := hs
  by_cases hb : Scalar.cmpi .ne (Scalar.extui (Scalar.cmpf (F := F) .ogt (k1_pay8 s) (Scalar.ofBits .f32 0x00000000#32)) : BitVec 32) 0#32 = 1#1
  · sl_exec (disch := first | sl_exact hb)
    sl_for (foldInvT d fa fc fd (fun a c d s => k1_pay10 z s a c d) k1_pay9) $$ [Ht]
    case region =>
      intro k s
      exact t2_region d fa fc fd i arg1 harg1 arg2 harg2 arg3 harg3 arg4 harg4 arg5 harg5 h6 h7 h8 h9 z k s
    · unfold foldInvT
      isplitr
      · ipureintro; rfl
      iexact Ht
    iintro %m HI
    unfold foldInvT
    icases HI with ⟨%hm, Ht⟩
    have hm' : m = tMax fa fc fd z 128 := hm
    sl_exec
    sl_for (foldInvT d fa fc fd (fun a c d s => k1_pay12 z m s a c d) k1_pay11) $$ [Ht]
    case region =>
      intro k s
      exact t3_region d fa fc fd i arg1 harg1 arg2 harg2 arg3 harg3 arg4 harg4 arg5 harg5 h6 h7 h8 h9 z m k s
    · unfold foldInvT
      isplitr
      · ipureintro; rfl
      iexact Ht
    iintro %u HI
    unfold foldInvT
    icases HI with ⟨%hu, Ht⟩
    have hu' : u = tSumM fa fc fd z 128 := by rw [hm'] at hu; exact hu
    sl_exec
    sl_step
    unfold tailPost
    isplitl [Ht]; · iexact Ht
    isplitl [Hm]; · iexact Hm
    iexists _
    isplitr
    rotate_left
    · iexact H5
    ipureintro
    refine (read_cons_full arg5.view _ _ _ zeros2 _ _).trans ?_
    have hb' : tBad (tSum fa fc fd z 128) := by rw [← hs']; exact hb
    unfold tOut
    rw [if_pos hb', ← hm', ← hu']
    exact congrArg (fun x => k1_pay13 x m u) (readAt_full sM.view m0 _ zeros2 _)
  · sl_exec (disch := first | sl_exact hb)
    sl_step
    unfold tailPost
    isplitl [Ht]; · iexact Ht
    isplitl [Hm]; · iexact Hm
    iexists _
    isplitr
    rotate_left
    · iexact H5
    ipureintro
    refine (read_cons_full arg5.view _ _ _ zeros2 _ _).trans ?_
    have hb' : ¬ tBad (tSum fa fc fd z 128) := by rw [← hs']; exact hb
    unfold tOut
    rw [if_neg hb', ← hs']
    exact congrArg (fun x => k1_pay7 s x) (readAt_full sM.view m0 _ zeros2 _)

/-- The blocks a step reads, each held at contents its view reads as the block. -/
def blocksT (z : TZ F) (mu lv : TT F) (w : T1 F) : sProp 𝕄 :=
  iprop((∃ f, ⌜arg1.view.read (Elt F) f = z⌝ ∗ (arg1.view.loc (T d) ↦[arg1.view.set]{fullShare} f))
    ∗ (∃ f, ⌜arg2.view.read (Elt F) f = mu⌝ ∗ (arg2.view.loc (T d) ↦[arg2.view.set]{fullShare} f))
    ∗ (∃ f, ⌜arg3.view.read (Elt F) f = lv⌝ ∗ (arg3.view.loc (T d) ↦[arg3.view.set]{fullShare} f))
    ∗ (∃ f, ⌜arg4.view.read (Elt F) f = w⌝ ∗ (arg4.view.loc (T d) ↦[arg4.view.set]{fullShare} f)))

/-- A later step: the tables stand as the first left them. -/
theorem body_rest (hi : (i 0).val ≠ 0) (m0 : T1 F) (z : TZ F) (mu lv : TT F) (w : T1 F) (f5 : arg5.view.ty.Contents (Elt F)) :
    iprop(blocksT d arg1 arg2 arg3 arg4 z mu lv w ∗ tabsT d fa fc fd ∗ (sM.view.loc (T d) ↦{fullShare} (m0 : Buf (Elt F) (sM.view.loc (T d)))) ∗ (arg5.view.loc (T d) ↦[arg5.view.set]{fullShare} f5))
      ⊢ wp frame (wpE (defs₀ (F := F)) 𝒱₀ (T d) none) Set.univ (cc1__tc_body i arg1 harg1 arg2 harg2 arg3 harg3 arg4 harg4 arg5 harg5 sA h6 sC h7 sD h8 sM h9)
        fun _ => iprop(blocksT d arg1 arg2 arg3 arg4 z mu lv w ∗ tailPost d fa fc fd arg5 m0 z) := by
  have hb : ¬ Scalar.cmpi .ne (Scalar.extui (Scalar.cmpi .eq (BitVec.ofNat 32 (i 0).val) 0#32) : BitVec 32) 0#32 = 1#1 := by
    have : ∀ n : Fin 24, n.val ≠ 0 → ¬ Scalar.cmpi .ne (Scalar.extui (Scalar.cmpi .eq (BitVec.ofNat 32 n.val) 0#32) : BitVec 32) 0#32 = 1#1 := by decide
    exact this (i 0) hi
  rw [cc1__tc_body_eq_skeleton]
  unfold cc1__tc_body_skel blocksT
  iintro ⟨⟨⟨%f1, %e1, H1⟩, ⟨%f2, %e2, H2⟩, ⟨%f3, %e3, H3⟩, ⟨%f4, %e4, H4⟩⟩, Ht, Hm, H5⟩
  sl_exec (disch := first | sl_exact hb)
  have ez : arg1.view.readAt (Elt F) (Rect.unit (s := S64x128) ![0, 0] S64x128.size inb_S64x128_S64x128_0_0).toLoadRect f1 = z := (readAt_full arg1.view f1 _ zeros2 _).trans e1
  rw [ez]
  ihave Hw := (tail_wp d fa fc fd i arg1 harg1 arg2 harg2 arg3 harg3 arg4 harg4 arg5 harg5 h6 h7 h8 h9 m0 z f5) $$ [Ht Hm H5]
  · isplitl [Ht]; · iexact Ht
    isplitl [Hm]; · iexact Hm
    iexact H5
  iapply (wp_wand _ _ _) $$ [Hw]
  · iexact Hw
  iintro %r HP
  isplitl [H1 H2 H3 H4]
  · isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    iexists f4; isplitr; · ipureintro; exact e4
    iexact H4
  iexact HP

/-- The first step: it writes the tables. -/
theorem body_first (hi : (i 0).val = 0) (z : TZ F) (mu lv : TT F) (w : T1 F) (f5 : arg5.view.ty.Contents (Elt F))
    (g6 : Buf (Elt F) (sA.view.loc (T d))) (g7 : Buf (Elt F) (sC.view.loc (T d))) (g8 : Buf (Elt F) (sD.view.loc (T d))) (g9 : Buf (Elt F) (sM.view.loc (T d))) :
    iprop(blocksT d arg1 arg2 arg3 arg4 z mu lv w ∗ ((sA.view.loc (T d) ↦{fullShare} g6) ∗ (sC.view.loc (T d) ↦{fullShare} g7) ∗ (sD.view.loc (T d) ↦{fullShare} g8) ∗ (sM.view.loc (T d) ↦{fullShare} g9))
        ∗ (arg5.view.loc (T d) ↦[arg5.view.set]{fullShare} f5))
      ⊢ wp frame (wpE (defs₀ (F := F)) 𝒱₀ (T d) none) Set.univ (cc1__tc_body i arg1 harg1 arg2 harg2 arg3 harg3 arg4 harg4 arg5 harg5 sA h6 sC h7 sD h8 sM h9)
        fun _ => iprop(blocksT d arg1 arg2 arg3 arg4 z mu lv w ∗ tailPost d (tA lv) (tC mu lv) (tD w mu lv) arg5 (tM0 w lv) z) := by
  have hb : Scalar.cmpi .ne (Scalar.extui (Scalar.cmpi .eq (BitVec.ofNat 32 (i 0).val) 0#32) : BitVec 32) 0#32 = 1#1 := by
    rw [hi]; decide
  rw [cc1__tc_body_eq_skeleton]
  unfold cc1__tc_body_skel blocksT
  rw [k1_part1_eq_skeleton]
  unfold k1_part1_skel
  iintro ⟨⟨⟨%f1, %e1, H1⟩, ⟨%f2, %e2, H2⟩, ⟨%f3, %e3, H3⟩, ⟨%f4, %e4, H4⟩⟩, ⟨Ha, Hc, Hd, Hm⟩, H5⟩
  sl_exec (disch := first | sl_exact hb)
  have ez : arg1.view.readAt (Elt F) (Rect.unit (s := S64x128) ![0, 0] S64x128.size inb_S64x128_S64x128_0_0).toLoadRect f1 = z := (readAt_full arg1.view f1 _ zeros2 _).trans e1
  have e2' : arg2.view.readAt (Elt F) (Rect.unit (s := S128x128) ![0, 0] S128x128.size inb_S128x128_S128x128_0_0).toLoadRect f2 = mu := (readAt_full arg2.view f2 _ zeros2 _).trans e2
  have e3' : arg3.view.readAt (Elt F) (Rect.unit (s := S128x128) ![0, 0] S128x128.size inb_S128x128_S128x128_0_0).toLoadRect f3 = lv := (readAt_full arg3.view f3 _ zeros2 _).trans e3
  have e4' : arg4.view.readAt (Elt F) (Rect.unit (s := S1x128) ![0, 0] S1x128.size inb_S1x128_S1x128_0_0).toLoadRect f4 = w := (readAt_full arg4.view f4 _ zeros2 _).trans e4
  have eA : sA.view.read (Elt F) (sA.view.writes (Elt F) sA.view.junk (body_first.sl.Ha_1 arg3 f3)) = tA lv := by
    unfold body_first.sl.Ha_1
    rw [read_cons_full (F := F) sA.view _ _ _ zeros2, e3']; rfl
  have eC : sC.view.read (Elt F) (sC.view.writes (Elt F) sC.view.junk (body_first.sl.Hc_1 arg2 arg3 f2 f3)) = tC mu lv := by
    unfold body_first.sl.Hc_1
    rw [read_cons_full (F := F) sC.view _ _ _ zeros2, e2', e3']; rfl
  have eD : sD.view.read (Elt F) (sD.view.writes (Elt F) sD.view.junk (body_first.sl.Hd_1 arg2 arg3 arg4 f2 f3 f4)) = tD w mu lv := by
    unfold body_first.sl.Hd_1
    rw [read_cons_full (F := F) sD.view _ _ _ zeros2, e2', e3', e4']; rfl
  have eM : sM.view.read (Elt F) (sM.view.writes (Elt F) sM.view.junk (body_first.sl.Hm_1 arg3 arg4 f3 f4)) = tM0 w lv := by
    unfold body_first.sl.Hm_1
    rw [read_cons_full (F := F) sM.view _ _ _ zeros2, e3', e4']; rfl
  rw [View.read_whole] at eA eC eD eM
  rw [ez, eA, eC, eD, eM]
  ihave Hw := (tail_wp d (tA lv) (tC mu lv) (tD w mu lv) i arg1 harg1 arg2 harg2 arg3 harg3 arg4 harg4 arg5 harg5 h6 h7 h8 h9 (tM0 w lv) z f5) $$ [Ha Hc Hd Hm H5]
  · isplitl [Ha Hc Hd]
    · unfold tabsT
      isplitl [Ha]; · iexact Ha
      isplitl [Hc]; · iexact Hc
      iexact Hd
    isplitl [Hm]; · iexact Hm
    iexact H5
  iapply (wp_wand _ _ _) $$ [Hw]
  · iexact Hw
  iintro %r HP
  isplitl [H1 H2 H3 H4]
  · isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    iexists f4; isplitr; · ipureintro; exact e4
    iexact H4
  iexact HP

end Loops

end Cert.Proof.Mix
-- ==== Proof.Region.lean ====
/- The grid kernel's pipeline: its proof data at the arrays' contents, its body at each point, its region. -/
module

public import proofs.«01_k».proof.Proof.Tensor
public import proofs.«01_k».proof.Proof.Gen.KernelIdeal.Launch
public import Idealize.ShloMosaic.Lib.Pipeline.RegionsLoop
public import Idealize.ShloMosaic.Lib.Tactic

@[expose] public section

set_option maxRecDepth 16384

noncomputable section

namespace Cert.Proof.Mix

open Cert.KernelIdeal Cert.KernelIdeal.Gen Cert.Proof.Trips
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

open Idealize.ShloMosaic.TcCoe
open Idealize.ShloMosaic.Pipeline (Dat Cfg Window BodyObligation cellOf)

local notation "𝕄" => MT nD τ sig (HIx 1) (Elt F) ℕ UU ℕ

section Region
/-- The contents of the TensorCore's buffers when the pipeline starts. -/
abbrev Vals (F : FTy → Type) : Type := (c : Dev nD) → (b : Ref sig .tc) → Buf (Elt F) ((c : Thread nD τ).loc b)
variable (V : Vals F)

/-- The block of samples of point `t`, and the three arrays read whole. -/
def zBlk (c : Dev nD) (t : Fin cfg1.N) : TZ F := ((cfg1.win 0).blk t).view.read (Elt F) (V c (Pipeline.arrRef spec1 0))
def muBlk (c : Dev nD) (t : Fin cfg1.N) : TT F := ((cfg1.win 1).blk t).view.read (Elt F) (V c (Pipeline.arrRef spec1 1))
def lvBlk (c : Dev nD) (t : Fin cfg1.N) : TT F := ((cfg1.win 2).blk t).view.read (Elt F) (V c (Pipeline.arrRef spec1 2))
def wBlk (c : Dev nD) (t : Fin cfg1.N) : T1 F := ((cfg1.win 3).blk t).view.read (Elt F) (V c (Pipeline.arrRef spec1 3))

abbrev t0 : Fin cfg1.N := ⟨0, by decide⟩

/-- The arrays read whole. -/
def muA (c : Dev nD) : TT F := muBlk V c t0
def lvA (c : Dev nD) : TT F := lvBlk V c t0
def wA (c : Dev nD) : T1 F := wBlk V c t0

/-- The output block of point `t`. -/
def oBlk (c : Dev nD) (t : Fin cfg1.N) : TZ F :=
  tOut (tA (lvA V c)) (tC (muA V c) (lvA V c)) (tD (wA V c) (muA V c) (lvA V c)) (tM0 (wA V c) (lvA V c)) (zBlk V c t)

/-- Between points: at first the scratch at anything, later the tables. -/
def ΦS (c : Dev nD) : ℕ → sProp 𝕄
  | 0 => Pipeline.scopedRest (Ix := HIx 1) (Name := ℕ) (U := UU) (Lvl := ℕ) (Val := Elt F) spec1 c
  | _ + 1 => iprop(tabsT c (tA (lvA V c)) (tC (muA V c) (lvA V c)) (tD (wA V c) (muA V c) (lvA V c)) ∗ (sM.view.loc (T c) ↦{fullShare} (tM0 (wA V c) (lvA V c) : Buf (Elt F) (sM.view.loc (T c)))))

/-- The recorded waits' bound. -/
def below (c : Dev nD) : Set (SemLoc sig × HIx 1) := {p | (K (F := F)).lev (T c, p.1) p.2 ≤ 8}

def dat (c : Dev nD) : Dat τ (Elt F) (HIx 1) ℕ UU ℕ cfg1 c where
  A w := V c (Pipeline.arrRef spec1 w)
  after w t := match w with
    | ⟨0, _⟩ => zBlk V c t
    | ⟨1, _⟩ => muBlk V c t
    | ⟨2, _⟩ => lvBlk V c t
    | ⟨3, _⟩ => wBlk V c t
    | ⟨4, _⟩ => oBlk V c t
  Φ t := ΦS V c t.val
  q _ := fullShare
  owed _ := 0
  recorded _ := below (F := F) c

theorem idx1 : ∀ t : Fin cfg1.N, (cfg1.win 1).index t = (cfg1.win 1).index t0 := (by decide : ∀ t : Fin grid1.N, win1_1.index t = win1_1.index ⟨0, by decide⟩)

theorem coords_val : ∀ t : Fin cfg1.N, (grid1.coords t 0).val = t.val := (by decide : ∀ t : Fin grid1.N, (grid1.coords t 0).val = t.val)

theorem before0 (c : Dev nD) (t : Fin cfg1.N) (d) : (dat V c).before 0 t d = zBlk V c t :=
  (dat V c).before_in_eq_fetched 0 rfl (fun _ => rfl) (fun _ _ _ => rfl) (fun _ => rfl) t d
theorem before1 (c : Dev nD) (t : Fin cfg1.N) (d) : (dat V c).before 1 t d = muBlk V c t :=
  (dat V c).before_in_eq_fetched 1 rfl (fun _ => rfl) (fun _ _ _ => rfl) (fun _ => rfl) t d
theorem before2 (c : Dev nD) (t : Fin cfg1.N) (d) : (dat V c).before 2 t d = lvBlk V c t :=
  (dat V c).before_in_eq_fetched 2 rfl (fun _ => rfl) (fun _ _ _ => rfl) (fun _ => rfl) t d
theorem before3 (c : Dev nD) (t : Fin cfg1.N) (d) : (dat V c).before 3 t d = wBlk V c t :=
  (dat V c).before_in_eq_fetched 3 rfl (fun _ => rfl) (fun _ _ _ => rfl) (fun _ => rfl) t d

theorem muBlk_eq (c : Dev nD) (t : Fin cfg1.N) : muBlk V c t = muA V c := rfl
theorem lvBlk_eq (c : Dev nD) (t : Fin cfg1.N) : lvBlk V c t = lvA V c := rfl
theorem wBlk_eq (c : Dev nD) (t : Fin cfg1.N) : wBlk V c t = wA V c := rfl

theorem owns_split {c : Dev nD} {s : Shape} (m : Memref sig .tc .vmem s .f32) (X : Vec F s .f32) :
    (owns (c : Thread nD τ) m fullShare X : sProp 𝕄) = iprop(∃ f, ⌜m.view.read (Elt F) f = X⌝ ∗ (m.view.loc (T c) ↦[m.view.set]{fullShare} f)) := rfl

/-- One point, on its staging buffers. -/
theorem body_at (c : Dev nD) (t : Fin cfg1.N) (f5 : (st1_4 t).view.ty.Contents (Elt F)) :
    iprop(ΦS V c t.val ∗ blocksT c (st1_0 t) (st1_1 t) (st1_2 t) (st1_3 t) (zBlk V c t) (muA V c) (lvA V c) (wA V c) ∗ ((st1_4 t).view.loc (T c) ↦[(st1_4 t).view.set]{fullShare} f5))
      ⊢ wp frame (wpE (defs₀ (F := F)) 𝒱₀ (T c) none) Set.univ (bodyAt1 t)
        fun _ => iprop(ΦS V c (t.val + 1) ∗ blocksT c (st1_0 t) (st1_1 t) (st1_2 t) (st1_3 t) (zBlk V c t) (muA V c) (lvA V c) (wA V c)
          ∗ ∃ g, ⌜(st1_4 t).view.read (Elt F) g = oBlk V c t⌝ ∗ ((st1_4 t).view.loc (T c) ↦[(st1_4 t).view.set]{fullShare} g)) := by
  obtain ⟨n, hn⟩ := t
  match n, hn with
  | 0, hn =>
    show iprop(Pipeline.scopedRest (Ix := HIx 1) (Name := ℕ) (U := UU) (Lvl := ℕ) (Val := Elt F) spec1 c ∗ _) ⊢ _
    rw [scopedRest1_eq]
    iintro ⟨⟨⟨%g6, Ha⟩, ⟨%g7, Hc⟩, ⟨%g8, Hd⟩, ⟨%g9, Hm⟩⟩, Hb, H5⟩
    ihave Hw := (body_first c (grid1.coords ⟨0, hn⟩) _ (hstage1_0 ((cfg1.slots ⟨0, hn⟩ 0).cast nbuf1_0)) _ (hstage1_1 ((cfg1.slots ⟨0, hn⟩ 1).cast nbuf1_1)) _ (hstage1_2 ((cfg1.slots ⟨0, hn⟩ 2).cast nbuf1_2))
      _ (hstage1_3 ((cfg1.slots ⟨0, hn⟩ 3).cast nbuf1_3)) _ (hstage1_4 ((cfg1.slots ⟨0, hn⟩ 4).cast nbuf1_4)) (Memref.isWhole_whole _) (Memref.isWhole_whole _) (Memref.isWhole_whole _) (Memref.isWhole_whole _)
      (coords_val ⟨0, hn⟩) (zBlk V c ⟨0, hn⟩) (muA V c) (lvA V c) (wA V c) f5 g6 g7 g8 g9) $$ [Ha Hc Hd Hm Hb H5]
    · isplitl [Hb]; · iexact Hb
      isplitl [Ha Hc Hd Hm]
      · isplitl [Ha]; · iexact Ha
        isplitl [Hc]; · iexact Hc
        isplitl [Hd]; · iexact Hd
        iexact Hm
      iexact H5
    iapply (wp_wand _ _ _) $$ [Hw]
    · iexact Hw
    iintro %r ⟨Hb, HP⟩
    unfold tailPost
    icases HP with ⟨Ht, Hm, H5⟩
    isplitl [Ht Hm]
    · unfold ΦS
      isplitl [Ht]; · iexact Ht
      iexact Hm
    isplitl [Hb]; · iexact Hb
    iexact H5
  | n + 1, hn =>
    show iprop((tabsT c (tA (lvA V c)) (tC (muA V c) (lvA V c)) (tD (wA V c) (muA V c) (lvA V c)) ∗ (sM.view.loc (T c) ↦{fullShare} (tM0 (wA V c) (lvA V c) : Buf (Elt F) (sM.view.loc (T c))))) ∗ _) ⊢ _
    iintro ⟨⟨Ht, Hm⟩, Hb, H5⟩
    ihave Hw := (body_rest c (tA (lvA V c)) (tC (muA V c) (lvA V c)) (tD (wA V c) (muA V c) (lvA V c)) (grid1.coords ⟨n + 1, hn⟩) _ (hstage1_0 ((cfg1.slots ⟨n + 1, hn⟩ 0).cast nbuf1_0)) _ (hstage1_1 ((cfg1.slots ⟨n + 1, hn⟩ 1).cast nbuf1_1)) _ (hstage1_2 ((cfg1.slots ⟨n + 1, hn⟩ 2).cast nbuf1_2))
      _ (hstage1_3 ((cfg1.slots ⟨n + 1, hn⟩ 3).cast nbuf1_3)) _ (hstage1_4 ((cfg1.slots ⟨n + 1, hn⟩ 4).cast nbuf1_4)) (Memref.isWhole_whole _) (Memref.isWhole_whole _) (Memref.isWhole_whole _) (Memref.isWhole_whole _)
      (fun h => Nat.succ_ne_zero n ((coords_val ⟨n + 1, hn⟩).symm.trans h)) (tM0 (wA V c) (lvA V c)) (zBlk V c ⟨n + 1, hn⟩) (muA V c) (lvA V c) (wA V c) f5) $$ [Ht Hm Hb H5]
    · isplitl [Hb]; · iexact Hb
      isplitl [Ht]; · iexact Ht
      isplitl [Hm]; · iexact Hm
      iexact H5
    iapply (wp_wand _ _ _) $$ [Hw]
    · iexact Hw
    iintro %r ⟨Hb, HP⟩
    unfold tailPost
    icases HP with ⟨Ht, Hm, H5⟩
    isplitl [Ht Hm]
    · unfold ΦS
      isplitl [Ht]; · iexact Ht
      iexact Hm
    isplitl [Hb]; · iexact Hb
    iexact H5

set_option maxHeartbeats 1000000 in
theorem body_obligation (c : Dev nD) : BodyObligation (dat V c) (defs₀ (F := F)) 𝒱₀ none Set.univ := fun t => by
  rw [bigSep_W1, bigSep_W1]
  show iprop(ΦS V c t.val ∗ (dat V c).owesAt none t.castSucc ∗ _) ⊢ wp frame _ Set.univ (bodyAt1 t) (fun _ => iprop(ΦS V c (t.val + 1) ∗ (dat V c).owesAt none t.castSucc
    ∗ (owns (c : Thread nD τ) (st1_0 t) fullShare (zBlk V c t) ∗ owns (c : Thread nD τ) (st1_1 t) fullShare (muA V c) ∗ owns (c : Thread nD τ) (st1_2 t) fullShare (lvA V c)
      ∗ owns (c : Thread nD τ) (st1_3 t) fullShare (wA V c) ∗ owns (c : Thread nD τ) (st1_4 t) fullShare (oBlk V c t))))
  iintro ⟨HΦ, Howes, ⟨%d0, H0⟩, ⟨%d1, H1⟩, ⟨%d2, H2⟩, ⟨%d3, H3⟩, ⟨%d4, H4⟩⟩
  rw [before0, before1, before2, before3]
  unfold owns
  icases H4 with ⟨%f5, -, H4⟩
  ihave Hw := (body_at V c t f5) $$ [HΦ H0 H1 H2 H3 H4]
  · isplitl [HΦ]; · iexact HΦ
    isplitr [H4]
    · unfold blocksT
      isplitl [H0]; · iexact H0
      isplitl [H1]; · iexact H1
      isplitl [H2]; · iexact H2
      iexact H3
    iexact H4
  iapply (wp_wand _ _ _) $$ [Hw]
  · iexact Hw
  iintro %r ⟨HΦ, Hb, H4⟩
  unfold blocksT
  icases Hb with ⟨H0, H1, H2, H3⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The region over the thread's state -/

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- The TensorCore's `owes` between calls: nothing owed, every recorded wait low. -/
def idleT (c : Dev nD) : sProp 𝕄 :=
  iprop(∃ W, ⌜(K (F := F)).WBelow (N := 1) (T c) W 8⌝ ∗ owes (c : Thread nD τ) (0 : CellTallies nD τ sig (HIx 1)) W)

/-- The result's array when the pipeline ends. -/
def outT (c : Dev nD) : Buf (Elt F) ((c : Thread nD τ).loc main_v17) := (dat V c).arrAt 4 cfg1.N

variable (Vp : Vals F)

set_option backward.isDefEq.respectTransparency.types false in
def reg (hVp_out : ∀ c, Vp c main_v17 = outT V c) (hVp_ne : ∀ c (b : Ref sig .tc), b ≠ main_v17 → Vp c b = V c b) :
    Pipeline.RegionSeg (pcfgs (F := F)) adm (pdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idleT c)
  post c := iprop(unscopedBufs c (Vp c) ∗ idleT c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin idleT
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = ΦS V c 24 from rfl]
    show _ ⊢ iprop(_ ∗ _ ∗ Pipeline.scopedRest (Ix := HIx 1) (Name := ℕ) (U := UU) (Lvl := ℕ) (Val := Elt F) spec1 c)
    rw [scopedRest1_eq]
    unfold ΦS tabsT
    iintro ⟨⟨Ha, Hc, Hd⟩, Hm⟩
    isplitr; · iempintro
    isplitr; · iempintro
    isplitl [Ha]; · iexists _; iexact Ha
    isplitl [Hc]; · iexists _; iexact Hc
    isplitl [Hd]; · iexists _; iexact Hd
    iexists _; iexact Hm
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v0 (by decide)).symm
        · exact ((pdats V 0 c).arrAt_in 1 rfl _).trans (hVp_ne c main_v8 (by decide)).symm
        · exact ((pdats V 0 c).arrAt_in 2 rfl _).trans (hVp_ne c main_v11 (by decide)).symm
        · exact ((pdats V 0 c).arrAt_in 3 rfl _).trans (hVp_ne c main_v12 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin idleT
    icases HO with ⟨%W, %hW, HO⟩; iexists W
    isplitr
    · ipureintro
      intro p hp
      rcases hW hp with h | ⟨w, s, rfl⟩
      · exact h
      · exact Nat.zero_le _
    iexact HO

end Region

end Cert.Proof.Mix
-- ==== Proof.Main.lean ====
/- The whole program on the TensorCore: the host operations, the SparseCore call, the grid kernel, and the
   program's run from any launch memory. -/
module

public import proofs.«01_k».proof.Proof.Launch
public import proofs.«01_k».proof.Proof.Region
public import proofs.«01_k».proof.Proof.Gen.KernelIdeal.Launch
public import Idealize.ShloMosaic.Lib.Pipeline.RegionsLoop
public import Idealize.ShloMosaic.Lib.Tactic
public import Idealize.ShloMosaic.Lib.StableHlo.Run

@[expose] public section

set_option maxRecDepth 16384

noncomputable section

namespace Cert.Proof.Mix

open Cert.KernelIdeal Cert.KernelIdeal.Gen Cert.Proof.Trips
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

open Idealize.ShloMosaic.TcCoe
open Idealize.ShloMosaic.Pipeline (Dat Cfg Window BodyObligation cellOf)

local notation "𝕄" => MT nD τ sig (HIx 1) (Elt F) ℕ UU ℕ

/-- The host operations before the two kernels. -/
def opsA : List (HloOp τ sig (Elt F)) :=
  [StableHlo.reshape main_arg0 main_v0 (rfl : (.f32 : EltTy) = .f32) shapeCasts_S4096x64_S2048x128,
    StableHlo.unary main_arg0 main_v1 ((extractStridedSlice S1024x64 ![3072, 0] · slices_S4096x64_S1024x64_3072_0) : (⟨S4096x64, .f32⟩ : BufTy).Contents (Elt F) → (⟨S1024x64, .f32⟩ : BufTy).Contents (Elt F)),
    StableHlo.unary main_v1 main_v2 ((transpose S64x1024 [1, 0] · transposes_S1024x64_S64x1024_1_0) : (⟨S1024x64, .f32⟩ : BufTy).Contents (Elt F) → (⟨S64x1024, .f32⟩ : BufTy).Contents (Elt F)),
    StableHlo.reshape main_v2 main_v3 (rfl : (.f32 : EltTy) = .f32) shapeCasts_S64x1024_S4x16x8x128,
    StableHlo.unary main_v3 main_v4 ((transpose S4x8x16x128 [0, 2, 1, 3] · transposes_S4x16x8x128_S4x8x16x128_0_2_1_3) : (⟨S4x16x8x128, .f32⟩ : BufTy).Contents (Elt F) → (⟨S4x8x16x128, .f32⟩ : BufTy).Contents (Elt F)),
    StableHlo.reshape main_v4 main_v5 (rfl : (.f32 : EltTy) = .f32) shapeCasts_S4x8x16x128_S32x16x128,
    StableHlo.reshape main_arg1 main_v6 (rfl : (.f32 : EltTy) = .f32) shapeCasts_S128x64_S1x128x1x64,
    StableHlo.unary main_v6 main_v7 (broadcastInDim S1x128x2x64 ![0, 1, 2, 3] bcast_S1x128x1x64_S1x128x2x64_0_1_2_3 : (⟨S1x128x1x64, .f32⟩ : BufTy).Contents (Elt F) → (⟨S1x128x2x64, .f32⟩ : BufTy).Contents (Elt F)),
    StableHlo.reshape main_v7 main_v8 (rfl : (.f32 : EltTy) = .f32) shapeCasts_S1x128x2x64_S128x128,
    StableHlo.reshape main_arg2 main_v9 (rfl : (.f32 : EltTy) = .f32) shapeCasts_S128x64_S1x128x1x64,
    StableHlo.unary main_v9 main_v10 (broadcastInDim S1x128x2x64 ![0, 1, 2, 3] bcast_S1x128x1x64_S1x128x2x64_0_1_2_3 : (⟨S1x128x1x64, .f32⟩ : BufTy).Contents (Elt F) → (⟨S1x128x2x64, .f32⟩ : BufTy).Contents (Elt F)),
    StableHlo.reshape main_v10 main_v11 (rfl : (.f32 : EltTy) = .f32) shapeCasts_S1x128x2x64_S128x128,
    StableHlo.reshape main_arg3 main_v12 (rfl : (.f32 : EltTy) = .f32) shapeCasts_S128x1x1_S1x128,
    StableHlo.unary main_arg1 main_v13 ((transpose S64x128 [1, 0] · transposes_S128x64_S64x128_1_0) : (⟨S128x64, .f32⟩ : BufTy).Contents (Elt F) → (⟨S64x128, .f32⟩ : BufTy).Contents (Elt F)),
    StableHlo.unary main_arg2 main_v14 ((transpose S64x128 [1, 0] · transposes_S128x64_S64x128_1_0) : (⟨S128x64, .f32⟩ : BufTy).Contents (Elt F) → (⟨S64x128, .f32⟩ : BufTy).Contents (Elt F)),
    StableHlo.reshape main_arg3 main_v15 (rfl : (.f32 : EltTy) = .f32) shapeCasts_S128x1x1_S128]

/-- The host operations after them. -/
def opsB : List (HloOp τ sig (Elt F)) :=
  [StableHlo.reshape main_v17 main_v18 (rfl : (.f32 : EltTy) = .f32) shapeCasts_S1536x128_S3072x64,
    StableHlo.unary main_v18 main_v19 ((transpose S64x3072 [1, 0] · transposes_S3072x64_S64x3072_1_0) : (⟨S3072x64, .f32⟩ : BufTy).Contents (Elt F) → (⟨S64x3072, .f32⟩ : BufTy).Contents (Elt F)),
    StableHlo.reshape main_v16 main_v20 (rfl : (.f32 : EltTy) = .f32) shapeCasts_S32x16x128_S4x8x16x128,
    StableHlo.unary main_v20 main_v21 ((transpose S4x16x8x128 [0, 2, 1, 3] · transposes_S4x8x16x128_S4x16x8x128_0_2_1_3) : (⟨S4x8x16x128, .f32⟩ : BufTy).Contents (Elt F) → (⟨S4x16x8x128, .f32⟩ : BufTy).Contents (Elt F)),
    StableHlo.reshape main_v21 main_v22 (rfl : (.f32 : EltTy) = .f32) shapeCasts_S4x16x8x128_S64x1024,
    StableHlo.binary main_v19 main_v22 main_v23 ((fun a b => concatenate S64x4096 1 [⟨S64x3072, a⟩, ⟨S64x1024, b⟩] concatenates_S64x3072_S64x1024_S64x4096_d1) : (⟨S64x3072, .f32⟩ : BufTy).Contents (Elt F) → (⟨S64x1024, .f32⟩ : BufTy).Contents (Elt F) → (⟨S64x4096, .f32⟩ : BufTy).Contents (Elt F))]

theorem main_eq (d : Dev nD) : main (F := F) d = StableHlo.seq opsA >>= fun _ =>
    (K (F := F)).run d 0 >>= fun _ => SparseCore.liftProg (.op (.customCall (Pipeline.entry 0) ()) (fun _ => .ret (⟨⟩ : PUnit))) >>= fun _ =>
      StableHlo.seq opsB >>= fun _ => pure ⟨⟩ := by
  simp only [opsA, opsB, StableHlo.seq, bind_assoc, pure_bind]
  rfl

/-! ## The unscoped buffers -/

/-- The TensorCore's unscoped buffers. -/
def ucRefs : Finset (DevRef τ sig) := (Finset.univ.filter fun b : Ref sig .tc => ¬ b.isScoped).map ⟨Proc.devRef (sig := sig) (.tc : Proc τ), Proc.devRef_injective _⟩

theorem mem_uc {b : Ref sig .tc} (h : b.isScoped = false) : Proc.devRef (τ := τ) .tc b ∈ ucRefs :=
  Finset.mem_map_of_mem _ (Finset.mem_filter.mpr ⟨Finset.mem_univ b, by rw [h]; decide⟩)

omit [FloatOps F] [Named F] in
theorem unscopedBufs_held (c : Dev nD) (W : Valuation τ sig (Elt F)) : (unscopedBufs c (fun b => W b) : sProp 𝕄) = StableHlo.held (c : Thread nD τ) ucRefs W := by
  unfold unscopedBufs StableHlo.held ucRefs
  rw [bigSep_map]; rfl

theorem sub2 {a b : Ref sig .tc} (ha : a.isScoped = false) (hb : b.isScoped = false) :
    ({Proc.devRef (τ := τ) .tc a, Proc.devRef .tc b} : Finset (DevRef τ sig)) ⊆ ucRefs :=
  Finset.insert_subset (mem_uc ha) (Finset.singleton_subset_iff.mpr (mem_uc hb))

theorem opsA_sub : ∀ op ∈ opsA (F := F), op.bufs ⊆ ucRefs := List.forall_iff_forall_mem.mp
  ⟨sub2 rfl rfl, sub2 rfl rfl, sub2 rfl rfl, sub2 rfl rfl, sub2 rfl rfl, sub2 rfl rfl, sub2 rfl rfl, sub2 rfl rfl,
    sub2 rfl rfl, sub2 rfl rfl, sub2 rfl rfl, sub2 rfl rfl, sub2 rfl rfl, sub2 rfl rfl, sub2 rfl rfl, sub2 rfl rfl⟩
theorem opsB_sub : ∀ op ∈ opsB (F := F), op.bufs ⊆ ucRefs := List.forall_iff_forall_mem.mp
  ⟨sub2 rfl rfl, sub2 rfl rfl, sub2 rfl rfl, sub2 rfl rfl, sub2 rfl rfl,
    Finset.insert_subset (mem_uc rfl) (sub2 rfl rfl)⟩
theorem opsA_fresh : ∀ op ∈ opsA (F := F), op.fresh = ∅ := List.forall_iff_forall_mem.mp (StableHlo.forall_fresh_of_map rfl)
theorem opsB_fresh : ∀ op ∈ opsB (F := F), op.fresh = ∅ := List.forall_iff_forall_mem.mp (StableHlo.forall_fresh_of_map rfl)

/-- The five buffers of the SparseCore call. -/
def five : Finset (DevRef τ sig) := ({main_v5, main_v13, main_v14, main_v15, main_v16} : Finset (Ref sig .tc)).map ⟨Proc.devRef (sig := sig) (.tc : Proc τ), Proc.devRef_injective _⟩
theorem five_sub : five ⊆ ucRefs := Finset.map_subset_map.mpr (by decide)

omit [FloatOps F] [Named F] in
theorem held_five (d : Dev nD) (W : Valuation τ sig (Elt F)) : (StableHlo.held (d : Thread nD τ) five W : sProp 𝕄)
    = iprop((zLoc d ↦{fullShare} W main_v5) ∗ (muLoc d ↦{fullShare} W main_v13) ∗ (lvLoc d ↦{fullShare} W main_v14) ∗ (wLoc d ↦{fullShare} W main_v15) ∗ (oLoc d ↦{fullShare} W main_v16)) := by
  unfold StableHlo.held five
  rw [bigSep_map, SparseCore.bigSep_insert' (by decide), SparseCore.bigSep_insert' (by decide), SparseCore.bigSep_insert' (by decide),
    SparseCore.bigSep_insert' (by decide), bigSep_singleton]
  rfl

/-! ## The buffers' contents from step to step -/

section Run
variable (m : (ℓ : Loc nD τ sig) → Buf (Elt F) ℓ) (ρ : Dev nD → PrngReg)

/-- After the first host operations, -/
def VA (d : Dev nD) : Valuation τ sig (Elt F) := StableHlo.after opsA (StableHlo.launchContents m d)
/-- after the SparseCore call, -/
def VB (d : Dev nD) : Valuation τ sig (Elt F) :=
  Function.update (VA m d) (Proc.devRef .tc main_v16) (scOut (F := F) (VA m d main_v5) (VA m d main_v13) (VA m d main_v14) (VA m d main_v15))
/-- after the grid kernel, -/
def VC (d : Dev nD) : Valuation τ sig (Elt F) := Function.update (VB m d) (Proc.devRef .tc main_v17) (outT (fun c b => VB m c b) d)
/-- and at the end. -/
def VE (d : Dev nD) : Valuation τ sig (Elt F) := StableHlo.after opsB (VC m d)

theorem VB_out (d : Dev nD) : VB m d main_v16 = scOut (F := F) (VA m d main_v5) (VA m d main_v13) (VA m d main_v14) (VA m d main_v15) := Function.update_self ..
theorem VB_ne (d : Dev nD) (b : Ref sig .tc) (h : b ≠ main_v16) : VB m d b = VA m d b :=
  Function.update_of_ne (StableHlo.devRef_ne_of_ne h) ..
theorem VC_out (d : Dev nD) : VC m d main_v17 = outT (fun c b => VB m c b) d := Function.update_self ..
theorem VC_ne (d : Dev nD) (b : Ref sig .tc) (h : b ≠ main_v17) : VC m d b = VB m d b :=
  Function.update_of_ne (StableHlo.devRef_ne_of_ne h) ..

/-- The SparseCore call's payloads at the contents it finds. -/
abbrev PM : (K (F := F)).Pay (nD := nD) (Val := Elt F) (Name := ℕ) (U := UU) :=
  P (F := F) (fun d => VA m d main_v5) (fun d => VA m d main_v13) (fun d => VA m d main_v14) (fun d => VA m d main_v15) (fun d => VA m d main_v16)

theorem st_eq (d : Dev nD) : (bigSep Finset.univ fun c : Fin ((K (F := F)).nCore 0) => (PM m).st 0 d c) = (StableHlo.held (d : Thread nD τ) five (VA m d) : sProp 𝕄) := by
  rw [held_five, ← tiles_eq]
  exact cores_eq (F := F) fun i => tileIn d (VA m d main_v5) (VA m d main_v13) (VA m d main_v14) (VA m d main_v15) (VA m d main_v16) i
theorem dn_eq (d : Dev nD) : (bigSep Finset.univ fun c : Fin ((K (F := F)).nCore 0) => (PM m).dn 0 d c) = (StableHlo.held (d : Thread nD τ) five (VB m d) : sProp 𝕄) := by
  rw [held_five, VB_out, VB_ne m d main_v5 (by decide), VB_ne m d main_v13 (by decide), VB_ne m d main_v14 (by decide), VB_ne m d main_v15 (by decide), ← tiles_eq]
  exact cores_eq (F := F) fun i => tileIn d (VA m d main_v5) (VA m d main_v13) (VA m d main_v14) (VA m d main_v15)
    (scOut (F := F) (VA m d main_v5) (VA m d main_v13) (VA m d main_v14) (VA m d main_v15)) i
theorem rest_eq (d : Dev nD) : (StableHlo.held (d : Thread nD τ) (ucRefs \ five) (VA m d) : sProp 𝕄) = StableHlo.held (d : Thread nD τ) (ucRefs \ five) (VB m d) :=
  StableHlo.held_congr _ fun b hb => (Function.update_of_ne (fun h => (Finset.mem_sdiff.mp hb).2 (by
    rw [h]; exact Finset.mem_map_of_mem ⟨Proc.devRef (sig := sig) (.tc : Proc τ), Proc.devRef_injective _⟩ (by decide))) ..).symm

/-! ## The ghost state -/

/-- The grid pipeline's rounds. -/
abbrev EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

theorem phinj : Function.Injective (cellOf (nD := nD) (τ := τ) (Pipeline.pin (pcfgs (F := F)) adm)) := cellOf_inj

/-- The ghost state the grid kernel takes on device `d`. -/
def G (d : Dev nD) : sProp 𝕄 := iprop(Pipeline.cellsGhost (Pipeline.pin (pcfgs (F := F)) adm) EP 0 d ∗ Pipeline.toksInit (Pipeline.pin (pcfgs (F := F)) adm) EP 0 d)

/-- The launch element of the three protocols. -/
def u₀ : UU := (initOf (K (F := F)).hsCells (K (F := F)).hsToks,
  (initOf (Pipeline.cells (Pipeline.pin (pcfgs (F := F)) adm) phinj) (Pipeline.launchToks (Pipeline.pin (pcfgs (F := F)) adm) phinj), (1 : Counters)))

omit [FloatOps F] [Named F] in
theorem bigSep_emps {I : Type} (s : Finset I) : (bigSep s fun _ => iprop(emp)) = (iprop(emp) : sProp 𝕄) := bigSep_emp_const s

omit [FloatOps F] [Named F] in
theorem one_pipeline (Φ : Fin 1 → Dev nD → sProp 𝕄) :
    (bigSep Finset.univ fun d : Dev nD => bigSep Finset.univ fun p : Fin 1 => Φ p d) ⊢ bigSep Finset.univ fun d : Dev nD => Φ 0 d :=
  Entails.of_eq (bigSep_congr fun d _ => bigSep_univ_of_subsingleton (0 : Fin 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PM m).x q thr) := by
  unfold u₀
  iintro Hu
  ihave H := (ownU_pair _ _) $$ Hu
  icases H with ⟨HH, Hr⟩
  ihave H := (own_pair_emb embR _ _) $$ Hr
  icases H with ⟨HP, -⟩
  imod (Pipeline.fund_ghost (Pipeline.pin (pcfgs (F := F)) adm) EP phinj) $$ HP with ⟨Hg, Ht⟩
  imodintro
  isplitl [HH]; · iexact HH
  isplitl [Hg Ht]
  · unfold G
    rw [bigSep_sep']
    isplitl [Hg]
    · iapply (one_pipeline fun p d => Pipeline.cellsGhost (Pipeline.pin (pcfgs (F := F)) adm) EP p d); iexact Hg
    · iapply (one_pipeline fun p d => Pipeline.toksInit (Pipeline.pin (pcfgs (F := F)) adm) EP p d); iexact Ht
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), bigSep_emps]
  iempintro

/-! ## @main on the TensorCore -/

theorem Otc_one (d : Dev nD) : (K (F := F)).Otc d 1 = 0 := by
  unfold SparseCore.Cfg.Otc
  rw [Finset.sum_eq_zero]
  intro q _; rw [if_neg (by omega)]

/-- After the call the TensorCore owes nothing. -/
theorem tcSt_idle (d : Dev nD) : ∃ R : sProp 𝕄, (K (F := F)).tcSt EH d 1 = iprop(idleT d ∗ R) := by
  unfold SparseCore.Cfg.tcSt idleT
  rw [Otc_one]
  exact ⟨_, rfl⟩

theorem VB_VC_out (d : Dev nD) : (fun (c : Dev nD) (b : Ref sig .tc) => VC m c b) d main_v17 = outT (fun c b => VB m c b) d := VC_out m d

/-- The grid kernel's region at what it finds. -/
def regM : Pipeline.RegionSeg (pcfgs (F := F)) adm (pdats (fun c b => VB m c b)) none defs₀ 𝒱₀ (K (F := F)).L (K (F := F)).lev 0 :=
  reg (fun c b => VB m c b) (fun c b => VC m c b) (VC_out m) (VC_ne m)

/-- What @main leaves of the arrays. -/
abbrev FIN (d : Dev nD) : sProp 𝕄 := StableHlo.held (d : Thread nD τ) ucRefs (VE m d)

theorem call_wp [∀ e, Nonempty (Elt F e)] (κ : GSem nD τ sig → ℕ) (d : Dev nD) (k : PUnit → Prog (TpuEff nD τ sig (Elt F) _ .tc) PUnit) (Q : PUnit → sProp 𝕄) :
    iprop((K (F := F)).ctx EH (PM m) κ ∗ boundary (T d) ∗ StableHlo.held (d : Thread nD τ) ucRefs (VB m d) ∗ idleT d ∗ G d
      ∗ ((boundary (T d) ∗ StableHlo.held (d : Thread nD τ) ucRefs (VC m d) ∗ idleT d) -∗ wp frame (wpE ((K (F := F)).defs (D (F := F))) 𝒱 (T d) none) Set.univ (k ⟨⟩) Q))
      ⊢ wp frame (wpE ((K (F := F)).defs (D (F := F))) 𝒱 (T d) none) Set.univ
        (SparseCore.liftProg (.op (.customCall (Pipeline.entry 0) ()) (fun _ => .ret (⟨⟩ : PUnit))) >>= k) Q := by
  rw [wp_bind]
  refine (show iprop(_) ⊢ _ from ?_).trans ((K (F := F)).wp_liftProg (D := D (F := F)) (𝒱 := 𝒱) (T d) Set.univ none _ _)
  have hpre : iprop(StableHlo.held (d : Thread nD τ) ucRefs (VB m d) ∗ idleT d) ⊢ (regM m).pre d :=
    sep_mono_left (Entails.of_eq (unscopedBufs_held d (VB m d)).symm)
  have hpost : (regM m).post d ⊢ iprop(StableHlo.held (d : Thread nD τ) ucRefs (VC m d) ∗ idleT d) :=
    sep_mono_left (Entails.of_eq (unscopedBufs_held d (VC m d)))
  unfold G
  iintro ⟨#Hctx, Hb, Hh, Hid, ⟨Hg, Ht⟩, Hk⟩
  iapply (Pipeline.RegionSeg.wp (pcfgs (F := F)) adm (pdats (fun c b => VB m c b)) none phinj EP defs₀ 𝒱₀ (K (F := F)).L (K (F := F)).lev (regM m) d none
    (fun _ h => nomatch h)) $$ [Hb Hh Hid Hg Ht Hk]
  isplitl [Hk]
  · iintro ⟨Hb, Hpost⟩
    ihave Hp := hpost $$ Hpost
    icases Hp with ⟨Hh, Hid⟩
    rw [wp_ret]
    imodintro
    iapply Hk
    isplitl [Hb]; · iexact Hb
    isplitl [Hh]; · iexact Hh
    iexact Hid
  isplitl [Hb]; · iexact Hb
  isplitl [Hh Hid]
  · iapply hpre
    isplitl [Hh] <;> iassumption
  isplitr; · iapply ((K (F := F)).ctx_levAts κ); iexact Hctx
  isplitl [Hg]; · iexact Hg
  iexact Ht

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_idle (F := F) d
  unfold SparseCore.Cfg.tcRes SparseCore.Cfg.tcEnd
  rw [main_eq, show (unscopedBufs d (fun b => m ((SparseCore.T d).loc b)) : sProp 𝕄) = StableHlo.held (d : Thread nD τ) ucRefs (StableHlo.launchContents m d) from
    unscopedBufs_held d (StableHlo.launchContents m d)]
  iintro ⟨#Hctx, Hst, ⟨Hb, Hh, Hts, -⟩, HG⟩
  iapply (StableHlo.wp_seq 𝒱 none Set.univ d ucRefs _ opsA opsA_sub opsA_fresh (StableHlo.launchContents m d)) $$ [Hb Hh]
  · isplitl [Hb] <;> iassumption
  iintro ⟨Hb, Hh⟩
  ihave Hh := (Entails.of_eq (show (StableHlo.held (d : Thread nD τ) ucRefs (StableHlo.after opsA (StableHlo.launchContents m d)) : sProp 𝕄) = iprop(StableHlo.held (d : Thread nD τ) five (VA m d) ∗ StableHlo.held (d : Thread nD τ) (ucRefs \ five) (VA m d)) from
    StableHlo.held_sub_split _ five_sub _)) $$ Hh
  icases Hh with ⟨H5, Hrest⟩
  rw [wp_bind]
  iapply ((K (F := F)).wp_run (D (F := F)) 𝒱 (EH := EH) (P := PM m) κ d 0) $$ [Hst H5 Hrest Hb Hts HG]
  isplitr; · iexact Hctx
  isplitl [Hst]; · iexact Hst
  isplitl [H5]; · rw [st_eq]; iexact H5
  iintro ⟨Hst, H5⟩
  ihave H5 := (Entails.of_eq (dn_eq m d)) $$ H5
  ihave Hrest := (Entails.of_eq (rest_eq m d)) $$ Hrest
  ihave Hst := (Entails.of_eq (show (K (F := F)).tcSt EH d ((0 : Fin 1).val + 1) = _ from hR)) $$ Hst
  icases Hst with ⟨Hid, HR⟩
  iapply (call_wp m κ d) $$ [H5 Hrest Hb Hts HG Hid HR]
  isplitr; · iexact Hctx
  isplitl [Hb]; · iexact Hb
  isplitl [H5 Hrest]
  · rw [StableHlo.held_sub_split _ five_sub]; isplitl [H5] <;> iassumption
  isplitl [Hid]; · iexact Hid
  isplitl [HG]; · iexact HG
  iintro ⟨Hb, Hh, Hid⟩
  iapply (StableHlo.wp_seq 𝒱 none Set.univ d ucRefs _ opsB opsB_sub opsB_fresh (VC m d)) $$ [Hb Hh]
  · isplitl [Hb] <;> iassumption
  iintro ⟨Hb, Hh⟩
  rw [wp_pure]
  imodintro
  isplitl [Hid HR]; · rw [hR]; isplitl [Hid] <;> iassumption
  isplitl [Hh]; · iexact Hh
  isplitl [Hb] <;> iassumption

/-- What the final memory holds: every unscoped buffer at its contents. -/
def fq (d : Dev nD) (s' : Phys nD τ sig (Elt F)) : Prop := ∀ b : Ref sig .tc, b.isScoped = false → s'.mem.mem ((d : Thread nD τ).loc b) = VE m d b

theorem hfin (d : Dev nD) (s' : Phys nD τ sig (Elt F)) : iprop(FIN m d ∗ SI s') ⊢ (⌜fq m d s'⌝ : sProp 𝕄) := by
  have h1 : ∀ b : Ref sig .tc, b.isScoped = false → iprop(FIN m d ∗ SI s') ⊢ (⌜s'.mem.mem ((d : Thread nD τ).loc b) = VE m d b⌝ : sProp 𝕄) := fun b hb => by
    have he : (FIN m d : sProp 𝕄) ⊢ iprop(((d : Thread nD τ).loc b) ↦{fullShare} VE m d b) :=
      bigSep_elim (Φ := fun b => iprop((d, b) ↦{fullShare} VE m d b)) (mem_uc hb)
    iintro ⟨HF, HSI⟩
    ihave Hx := he $$ HF
    ihave H := (SI_pointsTo_agree (st := s') (ℓ := (d : Thread nD τ).loc b) (I := Finset.univ) (q := fullShare) (f := VE m d b)) $$ [HSI Hx]
    · isplitl [HSI] <;> iassumption
    icases H with %hx
    ipureintro; exact funext fun i => hx i (Finset.mem_univ i)
  iintro H
  iapply (pure_forall (φ := fun b : Ref sig .tc => b.isScoped = false → s'.mem.mem ((d : Thread nD τ).loc b) = VE m d b)).2
  iintro %b
  iapply (pure_forall (φ := fun _ : b.isScoped = false => s'.mem.mem ((d : Thread nD τ).loc b) = VE m d b)).2
  iintro %hb
  iapply (h1 b hb)
  iexact H

/-! ## The program's run -/

def QC : PUnit × MemSt nD τ sig (Elt F) → Prop := fun r =>
  (∀ (c : Dev nD) (b : Ref sig .tc), b.isScoped = false → r.2.mem ((c : Thread nD τ).loc b) = VE m c b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ _ facts)
    (fun q _ => match q with | 0 => SparseCore.Cfg.VecSplit.of_plain (vecSplit _ _ _ _ _))
    m ρ main G (FIN m) (u₀ (F := F)) (sep_elim_left.trans (hu₀ m)) (hmain m ρ) (fq m) (hfin m) (QC m) (fun _ h hz => ⟨h, hz⟩)

end Run

end Cert.Proof.Mix
-- ==== Proof.Frames.lean ====
/- The frames of the kernel, as printed and idealized. -/
module

public import proofs.«01_k».proof.Defs
public import proofs.«01_k».proof.Proof.Main
public import proofs.«01_k».proof.Proof.Gen.Kernel
public import proofs.«01_k».proof.Proof.Gen.ReferenceIdeal.Run

@[expose] public section

set_option maxRecDepth 16384

noncomputable section

namespace Cert.Proof.Mix

open Cert.KernelIdeal Cert.KernelIdeal.Gen
open Idealize.ShloMosaic Idealize.ShloMosaic.TcCoe Idealize.SL.Sem

variable {F : FTy → Type} [FloatOps F] [Named F]

/-- What the host operations before the kernels write, -/
def refsA : List (Ref sig .tc) := [main_v0, main_v1, main_v2, main_v3, main_v4, main_v5, main_v6, main_v7, main_v8, main_v9, main_v10, main_v11, main_v12, main_v13, main_v14, main_v15]
/-- and after them. -/
def refsB : List (Ref sig .tc) := [main_v18, main_v19, main_v20, main_v21, main_v22, main_v23]

/-- A buffer that nothing writes ends as it began. -/
theorem VE_kept (m : (ℓ : Loc nD τ sig) → Buf (Elt F) ℓ) (d : Dev nD) (b : Ref sig .tc) (hA : b ∉ refsA) (hB : b ∉ refsB) (h16 : b ≠ main_v16) (h17 : b ≠ main_v17) :
    VE m d b = m ((d : Thread nD τ).loc b) := by
  unfold VE
  rw [StableHlo.after_of_writes_sub (W := refsB) opsB _ (StableHlo.forall_writes_sub_of_map rfl) hB, VC_ne m d b h17, VB_ne m d b h16]
  unfold VA
  rw [StableHlo.after_of_writes_sub (W := refsA) opsA _ (StableHlo.forall_writes_sub_of_map rfl) hA]

theorem QC_args {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h.1 c main_arg0 rfl).trans (VE_kept m c main_arg0 (by decide) (by decide) (by decide) (by decide)),
    (h.1 c main_arg1 rfl).trans (VE_kept m c main_arg1 (by decide) (by decide) (by decide) (by decide)),
    (h.1 c main_arg2 rfl).trans (VE_kept m c main_arg2 (by decide) (by decide) (by decide) (by decide)),
    (h.1 c main_arg3 rfl).trans (VE_kept m c main_arg3 (by decide) (by decide) (by decide) (by decide))⟩

/-- `Cert.quiescent_KernelIdeal` (Defs.lean). -/
theorem frame_ideal : Cert.quiescent_KernelIdeal := fun m ρ _ =>
  (θ_run Cert.KernelIdeal.defs _ _).mono (fun _ h => ⟨QC_args h, h.2⟩) (run_main (F := Ideal) m ρ)

/-- A named constant read as its literal. -/
@[reducible] def literalNamed : Named Bits := ⟨fun _ _ bits => FloatOps.ofBits bits⟩

/-- The run with the values dropped. -/
def Kept (m : (ℓ : Loc nD τ sig) → Buf (Elt F) ℓ) (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0

theorem run_kept [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (Kept m) :=
  (θ_run (Cert.KernelIdeal.defs (F := F)) _ _).mono (fun _ h => ⟨QC_args h, h.2⟩) (run_main m ρ)

section
attribute [local instance] literalNamed

/-! With the named constant read as its literal the two printed modules are the same program. -/

theorem body0_eq : @Cert.Kernel.cc0__sc_body Bits _ _ = @Cert.KernelIdeal.cc0__sc_body Bits _ _ _ := rfl
theorem body1_eq : @Cert.Kernel.cc1__tc_body Bits _ _ = @Cert.KernelIdeal.cc1__tc_body Bits _ _ _ := rfl
theorem defs₀_eq : Cert.Kernel.defs₀ (F := Bits) = Cert.KernelIdeal.defs₀ (F := Bits) := by
  funext c ℓ a
  rcases c with _ | c | ⟨c, s⟩
  all_goals
    match ℓ, a with
    | 0, a => rfl
    | 1, a => rfl
theorem defs_eq : Cert.Kernel.defs (F := Bits) = Cert.KernelIdeal.defs (F := Bits) := by
  refine Eq.trans (b := Cert.KernelIdeal.sc.defs (Pipeline.defs Cert.KernelIdeal.pcfgs (Cert.Kernel.defs₀ (F := Bits)))) rfl ?_
  rw [defs₀_eq]; rfl

/-- `Cert.quiescent_Kernel` (Defs.lean). -/
theorem frame_kernel : Cert.quiescent_Kernel := fun m ρ _ => by
  have h := run_kept (F := Bits) m ρ
  rw [← defs_eq] at h
  exact h

end

/-- `Cert.quiescent_ReferenceIdeal` (Defs.lean): the reference has no semaphore. -/
theorem frame_reference : Cert.quiescent_ReferenceIdeal := fun m ρ _ =>
  (θ_run Cert.ReferenceIdeal.defs _ _).mono
    (fun _ h => ⟨fun c => (h c).2, funext fun ⟨_, sm⟩ => nomatch sm⟩) (Cert.ReferenceIdeal.Value.run (F := Ideal) m ρ)

end Cert.Proof.Mix
-- ==== Proof.Reals.lean ====
/- The formula both programs compute where no log-variance is minus infinity, their arguments being any extended
   reals otherwise, and the facts that bring either program to it. -/
module

public import Idealize.ShloMosaic.PureOps.Ideal
public import Idealize.ShloMosaic.PureOps.Ideal.Laws
public import Idealize.ShloMosaic.Lib.IdealHost

@[expose] public section

noncomputable section

namespace Cert.Proof.Mix

open Idealize.ShloMosaic

/-! ## Real numbers among the extended ones -/

/-- An extended real that is a real number. -/
def IsReal (x : EReal) : Prop := ∃ r : ℝ, x = (r : EReal)

theorem IsReal.coe (r : ℝ) : IsReal (r : EReal) := ⟨r, rfl⟩
theorem isReal_of_ne {x : EReal} (ht : x ≠ ⊤) (hb : x ≠ ⊥) : IsReal x := ⟨x.toReal, (EReal.coe_toReal ht hb).symm⟩
theorem IsReal.ne_top {x : EReal} : IsReal x → x ≠ ⊤ := by rintro ⟨r, rfl⟩; exact EReal.coe_ne_top r
theorem IsReal.ne_bot {x : EReal} : IsReal x → x ≠ ⊥ := by rintro ⟨r, rfl⟩; exact EReal.coe_ne_bot r

/-- The larger of a real number and one that isn't plus infinity. -/
theorem IsReal.max {x y : EReal} (hx : IsReal x) (hy : y ≠ ⊤) : IsReal (max x y) := by
  refine isReal_of_ne ?_ fun h => hx.ne_bot (le_bot_iff.mp (h ▸ le_max_left x y))
  rcases max_choice x y with h | h <;> rw [h]
  exacts [hx.ne_top, hy]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sub_top (x : EReal) : x - ⊤ = ⊥ := by rw [sub_eq_add_neg, EReal.neg_top, EReal.add_bot]
theorem bot_sub (x : EReal) : ⊥ - x = ⊥ := by rw [sub_eq_add_neg, EReal.bot_add]
theorem log_zero : Ideal.log 0 = ⊥ := by
  rw [← EReal.coe_zero, Ideal.log_coe, if_pos le_rfl]
theorem log_pos {r : ℝ} (h : 0 < r) : Ideal.log (r : EReal) = (Real.log r : EReal) := by
  rw [Ideal.log_coe, if_neg (not_le.mpr h)]

/-! ## The logarithm of a sum of exponentials -/

/-- The exponential as a real number, of a number below plus infinity. -/
def expR (x : EReal) : ℝ := (Ideal.exp x).toReal

theorem expR_bot : expR ⊥ = 0 := rfl
theorem expR_coe (r : ℝ) : expR (r : EReal) = Real.exp r := rfl
theorem exp_eq {x : EReal} (h : x ≠ ⊤) : Ideal.exp x = ((expR x : ℝ) : EReal) := by
  induction x using EReal.rec with
  | bot => rfl
  | top => exact absurd rfl h
  | coe r => rfl
theorem expR_nonneg (x : EReal) : 0 ≤ expR x := by
  induction x using EReal.rec with
  | bot => exact le_rfl
  | top => exact le_rfl
  | coe r => exact (Real.exp_pos r).le
theorem expR_pos {x : EReal} (h : IsReal x) : 0 < expR x := by
  obtain ⟨r, rfl⟩ := h
  exact Real.exp_pos r

theorem sub_ne_top {x : EReal} (h : x ≠ ⊤) (m : ℝ) : x - (m : EReal) ≠ ⊤ := by
  induction x using EReal.rec with
  | bot => rw [bot_sub]; exact bot_ne_top
  | top => exact absurd rfl h
  | coe r => rw [← EReal.coe_sub]; exact EReal.coe_ne_top _
theorem expR_sub {x : EReal} (h : x ≠ ⊤) (m : ℝ) : expR (x - (m : EReal)) = Real.exp (-m) * expR x := by
  induction x using EReal.rec with
  | bot => rw [bot_sub, expR_bot, mul_zero]
  | top => exact absurd rfl h
  | coe r => rw [← EReal.coe_sub, expR_coe, expR_coe, ← Real.exp_add]; congr 1; ring

section Sums
variable {ι : Type} [Fintype ι]

/-- The logarithm of the sum of the exponentials of a family. -/
def logSumExp (t : ι → EReal) : EReal := Ideal.log (∑ k, Ideal.exp (t k))

theorem sum_exp (t : ι → EReal) (h : ∀ k, t k ≠ ⊤) : ∑ k, Ideal.exp (t k) = ((∑ k, expR (t k) : ℝ) : EReal) := by
  rw [coe_sum]
  exact Finset.sum_congr rfl fun k _ => exp_eq (h k)

theorem sum_expR_pos (t : ι → EReal) (h : ∃ k, IsReal (t k)) : 0 < ∑ k, expR (t k) := by
  obtain ⟨k, hk⟩ := h
  exact Finset.sum_pos' (fun k _ => expR_nonneg _) ⟨k, Finset.mem_univ k, expR_pos hk⟩

/-- Of a family of minus infinities. -/
theorem logSumExp_bot (t : ι → EReal) (h : ∀ k, t k = ⊥) : logSumExp t = ⊥ := by
  unfold logSumExp
  rw [sum_exp t fun k => by rw [h]; exact bot_ne_top]
  simp only [h, expR_bot, Finset.sum_const_zero, EReal.coe_zero, log_zero]

/-- A real shift of every exponent is a shift of the logarithm of the sum. -/
theorem logSumExp_shift (t : ι → EReal) (h : ∀ k, t k ≠ ⊤) (m : ℝ) : logSumExp (fun k => t k - (m : EReal)) + (m : EReal) = logSumExp t := by
  unfold logSumExp
  rw [sum_exp t h, sum_exp _ fun k => sub_ne_top (h k) m, Finset.sum_congr rfl fun k _ => expR_sub (h k) m, ← Finset.mul_sum]
  rcases (Finset.sum_nonneg fun k (_ : k ∈ Finset.univ) => expR_nonneg (t k)).eq_or_lt with e | e
  · rw [← e, mul_zero, EReal.coe_zero, log_zero, EReal.bot_add]
  · rw [log_pos e, log_pos (mul_pos (Real.exp_pos _) e), Real.log_mul (Real.exp_pos _).ne' e.ne', Real.log_exp, ← EReal.coe_add]
    congr 1; ring

/-- The largest of a family: an upper bound that is attained. -/
def IsMax (t : ι → EReal) (M : EReal) : Prop := (∀ k, t k ≤ M) ∧ ∃ k, M = t k

theorem isMax_fold [Nonempty ι] (t : ι → EReal) : IsMax t ((Finset.univ : Finset ι).fold Max.max ⊥ t) := by
  refine ⟨fun k => (Finset.le_fold_max _).mpr (.inr ⟨k, Finset.mem_univ k, le_rfl⟩), ?_⟩
  have hle : ∀ k, t k ≤ (Finset.univ : Finset ι).fold Max.max ⊥ t := fun k => (Finset.le_fold_max _).mpr (.inr ⟨k, Finset.mem_univ k, le_rfl⟩)
  rcases (Finset.le_fold_max ((Finset.univ : Finset ι).fold Max.max ⊥ t)).mp le_rfl with h | ⟨k, _, h⟩
  · obtain ⟨k⟩ := ‹Nonempty ι›
    exact ⟨k, le_antisymm (h.trans bot_le) (hle k)⟩
  · exact ⟨k, le_antisymm h (hle k)⟩

/-- The same of a family below plus infinity is minus infinity only where the whole family is, and else real. -/
theorem IsMax.cases {t : ι → EReal} {M : EReal} (h : IsMax t M) (ht : ∀ k, t k ≠ ⊤) : IsReal M ∨ M = ⊥ ∧ ∀ k, t k = ⊥ := by
  by_cases hb : M = ⊥
  · exact .inr ⟨hb, fun k => le_bot_iff.mp (hb ▸ h.1 k)⟩
  · obtain ⟨k, hk⟩ := h.2
    exact .inl (isReal_of_ne (hk ▸ ht k) hb)

/-- The logarithm of the sum, computed below the largest. -/
theorem logSumExp_max {t : ι → EReal} {M : EReal} (h : IsMax t M) (ht : ∀ k, t k ≠ ⊤) : logSumExp (fun k => t k - M) + M = logSumExp t := by
  rcases h.cases ht with ⟨m, rfl⟩ | ⟨rfl, hb⟩
  · exact logSumExp_shift t ht m
  · rw [EReal.add_bot, logSumExp_bot t hb]
end Sums

/-! ## The formula -/

/-- The normalising constant of a Gaussian, with π at its float32 value. -/
def gconst : ℝ := -((1 / 2) * Real.log (2 * (13176795 / 4194304)))

/-- Weights that a softmax can be taken of: none is plus infinity, and not all are minus infinity. -/
def Usual (w : Fin 128 → EReal) : Prop := (∀ k, w k ≠ ⊤) ∧ ∃ k, w k ≠ ⊥

/-- The logarithm of the sum of the weights' exponentials, -/
def lsw (w : Fin 128 → EReal) : ℝ := Real.log (∑ j, expR (w j))
open Classical in
/-- as an extended real, minus infinity for the other weights. -/
def lseE (w : Fin 128 → EReal) : EReal := if Usual w then ((lsw w : ℝ) : EReal) else ⊥
open Classical in
/-- The logarithm of the softmax of the weights. -/
def logw (w : Fin 128 → EReal) (k : Fin 128) : EReal := if Usual w then w k - ((lsw w : ℝ) : EReal) else ⊥

open Classical in
/-- The log density of component `k` with its weight: minus infinity at an infinite sample, mean or log-variance. -/
def term (w mu lv : Fin 128 → EReal) (z : EReal) (k : Fin 128) : EReal :=
  if IsReal z ∧ IsReal (mu k) ∧ IsReal (lv k) ∧ Usual w then
    ((((gconst - 1 / 2 * (lv k).toReal) - lsw w) - 1 / 2 * Real.exp (-(lv k).toReal) * (z.toReal - (mu k).toReal) ^ 2 : ℝ) : EReal) + w k
  else ⊥

/-- The log density of the mixture. -/
def spec (w mu lv : Fin 128 → EReal) (z : EReal) : EReal := logSumExp (term w mu lv z)

theorem Usual.real {w : Fin 128 → EReal} (h : Usual w) : ∃ k, IsReal (w k) := by
  obtain ⟨k, hk⟩ := h.2
  exact ⟨k, isReal_of_ne (h.1 k) hk⟩

theorem usual_lse {w : Fin 128 → EReal} (h : Usual w) : logSumExp w = ((lsw w : ℝ) : EReal) := by
  unfold logSumExp
  rw [sum_exp w h.1, log_pos (sum_expR_pos w h.real), lsw]

theorem coe_add_ne_top (r : ℝ) {x : EReal} (h : x ≠ ⊤) : (r : EReal) + x ≠ ⊤ := by
  induction x using EReal.rec with
  | bot => rw [EReal.add_bot]; exact bot_ne_top
  | top => exact absurd rfl h
  | coe s => rw [← EReal.coe_add]; exact EReal.coe_ne_top _

theorem term_ne_top (w mu lv : Fin 128 → EReal) (z : EReal) (k : Fin 128) : term w mu lv z k ≠ ⊤ := by
  unfold term
  split
  · rename_i h; exact coe_add_ne_top _ (h.2.2.2.1 k)
  · exact bot_ne_top

/-- Weights that aren't usual hold a plus infinity or are all minus infinity. -/
theorem unusual {w : Fin 128 → EReal} (h : ¬Usual w) : (∃ k, w k = ⊤) ∨ ∀ k, w k = ⊥ := by
  unfold Usual at h
  push Not at h
  by_cases ht : ∃ k, w k = ⊤
  · exact .inl ht
  · exact .inr (h fun k hk => ht ⟨k, hk⟩)

/-- The weights' log-sum, computed below their largest, whatever the weights. -/
theorem lseE_of_max {w : Fin 128 → EReal} {M : EReal} (h : IsMax w M) : M + logSumExp (fun k => w k - M) = lseE w := by
  unfold lseE
  split
  · rename_i hu
    rw [add_comm, logSumExp_max h hu.1, usual_lse hu]
  · rename_i hu
    rcases unusual hu with ⟨k, hk⟩ | hb
    · obtain rfl : M = ⊤ := top_le_iff.mp (hk ▸ h.1 k)
      rw [logSumExp_bot _ fun k => sub_top _, EReal.add_bot]
    · obtain ⟨k, hk⟩ := h.2
      rw [hk, hb, EReal.bot_add]

/-- The logarithm of a softmax computed below the largest weight, whatever the weights. -/
theorem logw_of_max {w : Fin 128 → EReal} {M : EReal} (h : IsMax w M) (k : Fin 128) :
    Ideal.log (Ideal.div (Ideal.exp (w k - M)) (∑ j, Ideal.exp (w j - M))) = logw w k := by
  unfold logw
  split
  · rename_i hu
    rcases h.cases hu.1 with ⟨m, rfl⟩ | ⟨_, hb⟩
    · have hp := sum_expR_pos w hu.real
      rw [sum_exp _ fun j => sub_ne_top (hu.1 j) m, Finset.sum_congr rfl fun j _ => expR_sub (hu.1 j) m, ← Finset.mul_sum,
        Ideal.div_coe (mul_pos (Real.exp_pos _) hp).ne', exp_eq (sub_ne_top (hu.1 k) m), ← EReal.coe_mul, expR_sub (hu.1 k)]
      generalize hx : w k = x
      induction x using EReal.rec with
      | bot => rw [expR_bot, mul_zero, zero_mul, EReal.coe_zero, log_zero, bot_sub]
      | top => exact absurd hx (hu.1 k)
      | coe r =>
        rw [expR_coe, log_pos (by positivity), ← EReal.coe_sub, Real.log_mul (by positivity) (by positivity), one_div, Real.log_inv,
          Real.log_mul (Real.exp_pos _).ne' (Real.exp_pos _).ne', Real.log_mul (Real.exp_pos _).ne' hp.ne', Real.log_exp, Real.log_exp, lsw]
        congr 1; ring
    · obtain ⟨k, hk⟩ := hu.2
      exact absurd (hb k) hk
  · rename_i hu
    have hz : ∀ j, Ideal.exp (w j - M) = 0 := fun j => by
      rcases unusual hu with ⟨i, hi⟩ | hb
      · obtain rfl : M = ⊤ := top_le_iff.mp (hi ▸ h.1 i)
        rw [sub_top]; rfl
      · rw [hb, bot_sub]; rfl
    simp only [hz, Finset.sum_const_zero]
    rw [show Ideal.div 0 0 = ⊥ by simp [Ideal.div]]
    rfl

theorem sq_top {x : EReal} (h : ¬IsReal x) : x * x = ⊤ := by
  induction x using EReal.rec with
  | bot => exact EReal.bot_mul_bot
  | top => exact EReal.top_mul_top
  | coe r => exact absurd (IsReal.coe r) h

/-- One component as the reference computes it. -/
theorem term_of_square (w mu lv : Fin 128 → EReal) (z : EReal) (k : Fin 128) (hlv : lv k ≠ ⊥) :
    (((gconst : EReal) - ((1 / 2 : ℝ) : EReal) * lv k) - ((1 / 2 : ℝ) : EReal) * Ideal.exp (-lv k) * ((z - mu k) * (z - mu k))) + logw w k = term w mu lv z k := by
  by_cases hl : IsReal (lv k)
  · have hG : ∀ l : ℝ, ((1 / 2 : ℝ) : EReal) * Ideal.exp (-(l : EReal)) = ((1 / 2 * Real.exp (-l) : ℝ) : EReal) := fun l => by
      rw [← EReal.coe_neg, Ideal.exp_coe, ← EReal.coe_mul]
    by_cases hz : IsReal z ∧ IsReal (mu k)
    · obtain ⟨l, hl⟩ := hl
      obtain ⟨⟨zr, rfl⟩, mr, hm⟩ := hz
      by_cases hu : Usual w
      · rw [term, if_pos ⟨⟨_, rfl⟩, ⟨_, hm⟩, ⟨_, hl⟩, hu⟩, logw, if_pos hu, hl, hm, hG, sub_eq_add_neg (w k), add_comm (w k), ← add_assoc]
        congr 1
        simp only [EReal.toReal_coe, ← EReal.coe_neg, ← EReal.coe_sub, ← EReal.coe_mul, ← EReal.coe_add]
        congr 1; ring
      · rw [term, if_neg fun h => hu h.2.2.2, logw, if_neg hu, EReal.add_bot]
    · rw [term, if_neg fun h => hz ⟨h.1, h.2.1⟩]
      have hs : ¬IsReal (z - mu k) := by
        rintro ⟨r, hr⟩
        generalize mu k = y at hz hr
        induction z using EReal.rec with
        | bot => rw [bot_sub] at hr; exact absurd hr.symm (EReal.coe_ne_bot r)
        | top =>
          induction y using EReal.rec with
          | top => rw [sub_top] at hr; exact absurd hr.symm (EReal.coe_ne_bot r)
          | bot => exact absurd (show (⊤ : EReal) = r from hr).symm (EReal.coe_ne_top r)
          | coe y => exact absurd (show (⊤ : EReal) = r from hr).symm (EReal.coe_ne_top r)
        | coe x =>
          induction y using EReal.rec with
          | top => rw [sub_top] at hr; exact absurd hr.symm (EReal.coe_ne_bot r)
          | bot => exact absurd (show (⊤ : EReal) = r from hr).symm (EReal.coe_ne_top r)
          | coe y => exact hz ⟨⟨_, rfl⟩, ⟨_, rfl⟩⟩
      obtain ⟨l, hl⟩ := hl
      rw [sq_top hs, hl, hG, EReal.coe_mul_top_of_pos (by positivity), sub_top, EReal.bot_add]
  · rw [term, if_neg fun h => hl h.2.2.1]
    obtain h : lv k = ⊤ := by by_contra h; exact hl (isReal_of_ne h hlv)
    rw [h, EReal.coe_mul_top_of_pos (by norm_num), sub_top, bot_sub, EReal.bot_add]

/-- The logarithm of the sum, computed below the largest, or below zero where the largest is not finite. -/
theorem logSumExp_guard {t : Fin 128 → EReal} {M : EReal} (h : IsMax t M) (ht : ∀ k, t k ≠ ⊤) {M' : EReal}
    (h1 : IsReal M → M' = M) (h2 : ¬IsReal M → M' = 0) : logSumExp (fun k => t k - M') + M' = logSumExp t := by
  by_cases hM : IsReal M
  · rw [h1 hM, logSumExp_max h ht]
  · rw [h2 hM, ← EReal.coe_zero]
    exact logSumExp_shift t ht 0

/-! ## Exponents below a shift -/

/-- The exponents `e` are the terms `t` less the shift, or both are minus infinity throughout. -/
def Shifted (e t : Fin 128 → EReal) (m0 : EReal) : Prop := (∃ m : ℝ, m0 = (m : EReal) ∧ ∀ k, e k = t k - (m : EReal)) ∨ (∀ k, e k = ⊥) ∧ ∀ k, t k = ⊥

theorem Shifted.ne_top {e t : Fin 128 → EReal} {m0 : EReal} (h : Shifted e t m0) (ht : ∀ k, t k ≠ ⊤) (k : Fin 128) : e k ≠ ⊤ := by
  rcases h with ⟨m, _, h⟩ | ⟨h, _⟩
  · rw [h]; exact sub_ne_top (ht k) m
  · rw [h]; exact bot_ne_top

/-- Without a second shift, -/
theorem Shifted.one {e t : Fin 128 → EReal} {m0 : EReal} (h : Shifted e t m0) (ht : ∀ k, t k ≠ ⊤) : logSumExp e + m0 = logSumExp t := by
  rcases h with ⟨m, rfl, h⟩ | ⟨h, h'⟩
  · rw [funext h, logSumExp_shift t ht]
  · rw [logSumExp_bot e h, logSumExp_bot t h', EReal.bot_add]
/-- and with one. -/
theorem Shifted.two {e t : Fin 128 → EReal} {m0 : EReal} (h : Shifted e t m0) (ht : ∀ k, t k ≠ ⊤) (p : ℝ) :
    ((p : EReal) + logSumExp fun k => e k - (p : EReal)) + m0 = logSumExp t := by
  rw [add_comm (p : EReal), logSumExp_shift e (h.ne_top ht), h.one ht]

/-- The exponents as both kernels compute them: a square, expanded, and a constant less the largest constant. -/
theorem shifted_terms (w mu lv : Fin 128 → EReal) (z m0 : EReal) (pk : Fin 128 → EReal) (hlv : ∀ k, lv k ≠ ⊥)
    (hpk : ∀ k, pk k = ((gconst : EReal) - ((1 / 2 : ℝ) : EReal) * lv k) + (w k - lseE w)) (hle : ∀ k, pk k ≤ m0) (hatt : IsReal m0 ∨ ∃ k, m0 = pk k) :
    Shifted (fun k => ((-(1 / 2) : ℝ) : EReal) * Ideal.exp (0 - lv k) * (z * z) + Ideal.exp (0 - lv k) * mu k * z
      + ((pk k + ((-(1 / 2) : ℝ) : EReal) * Ideal.exp (0 - lv k) * (mu k * mu k)) - m0)) (term w mu lv z) m0 := by
  have hinf : ∀ k, lv k = ⊤ → pk k = ⊥ := fun k h => by
    rw [hpk, h, EReal.coe_mul_top_of_pos (by norm_num), sub_top, EReal.bot_add]
  have hbot : ∀ k x y, pk k = ⊥ → x + ((pk k + y) - m0) = ⊥ := fun k x y h => by
    rw [h, EReal.bot_add, bot_sub, EReal.add_bot]
  by_cases hu : Usual w
  · have hpk' : ∀ k (l : ℝ), lv k = (l : EReal) → pk k = ((gconst - 1 / 2 * l - lsw w : ℝ) : EReal) + w k := fun k l h => by
      rw [hpk, h, lseE, if_pos hu, ← EReal.coe_mul, ← EReal.coe_sub, sub_eq_add_neg (w k), add_left_comm, ← EReal.coe_neg, ← EReal.coe_add, add_comm, sub_eq_add_neg _ (lsw w)]
    have hpt : ∀ k, pk k ≠ ⊤ := fun k => by
      by_cases h : lv k = ⊤
      · rw [hinf k h]; exact bot_ne_top
      · obtain ⟨l, hl⟩ := isReal_of_ne h (hlv k)
        rw [hpk' k l hl]; exact coe_add_ne_top _ (hu.1 k)
    by_cases hall : ∀ k, pk k = ⊥
    · refine .inr ⟨fun k => hbot k _ _ (hall k), fun k => ?_⟩
      unfold term
      split
      · rename_i h
        obtain ⟨l, hl⟩ := h.2.2.1
        have e := hall k
        rw [hpk' k l hl] at e
        generalize w k = x at e ⊢
        induction x using EReal.rec with
        | bot => exact EReal.add_bot _
        | top => rw [EReal.coe_add_top] at e; exact absurd e top_ne_bot
        | coe r => rw [← EReal.coe_add] at e; exact absurd e (EReal.coe_ne_bot _)
      · rfl
    have hm : IsReal m0 := by
      rcases hatt with h | ⟨k, h⟩
      · exact h
      · refine isReal_of_ne (h ▸ hpt k) fun hb => hall fun j => le_bot_iff.mp (hb ▸ hle j)
    obtain ⟨m, rfl⟩ := hm
    refine .inl ⟨m, rfl, fun k => ?_⟩
    by_cases hl : IsReal (lv k)
    · by_cases hz : IsReal z
      · by_cases hmu : IsReal (mu k)
        · rw [term, if_pos ⟨hz, hmu, hl, hu⟩]
          obtain ⟨zr, rfl⟩ := hz
          obtain ⟨l, hl⟩ := hl
          obtain ⟨mr, hmu⟩ := hmu
          dsimp only
          rw [hpk' k l hl, hl, hmu]
          generalize hwk : w k = x
          induction x using EReal.rec with
          | bot => simp only [EReal.add_bot, EReal.bot_add, bot_sub]
          | top => exact absurd hwk (hu.1 k)
          | coe r =>
            simp only [← EReal.coe_zero, EReal.toReal_coe, ← EReal.coe_sub, Ideal.exp_coe, ← EReal.coe_mul, ← EReal.coe_add]
            congr 1
            rw [zero_sub]; ring
        · rw [term, if_neg fun h => hmu h.2.1, bot_sub]
          obtain ⟨l, hl⟩ := hl
          dsimp only
          rw [sq_top hmu, hl, ← EReal.coe_zero, ← EReal.coe_sub, Ideal.exp_coe, ← EReal.coe_mul, EReal.coe_mul_top_of_neg (mul_neg_of_neg_of_pos (by norm_num) (Real.exp_pos _)), EReal.add_bot, bot_sub, EReal.add_bot]
      · rw [term, if_neg fun h => hz h.1, bot_sub]
        obtain ⟨l, hl⟩ := hl
        dsimp only
        rw [sq_top hz, hl, ← EReal.coe_zero, ← EReal.coe_sub, Ideal.exp_coe, ← EReal.coe_mul, EReal.coe_mul_top_of_neg (mul_neg_of_neg_of_pos (by norm_num) (Real.exp_pos _)), EReal.bot_add, EReal.bot_add]
    · rw [term, if_neg fun h => hl h.2.2.1, bot_sub]
      exact hbot k _ _ (hinf k (by by_contra h; exact hl (isReal_of_ne h (hlv k))))
  · refine .inr ⟨fun k => ?_, fun k => if_neg fun h => hu h.2.2.2⟩
    by_cases ht : ∃ j, pk j = ⊤
    · obtain ⟨j, hj⟩ := ht
      have hm : m0 = ⊤ := top_le_iff.mp (hj ▸ hle j)
      dsimp only
      rw [hm, sub_top, EReal.add_bot]
    · refine hbot k _ _ ?_
      by_contra hne
      refine ht ⟨k, ?_⟩
      obtain ⟨l, hl⟩ := isReal_of_ne (fun h => hne (hinf k h)) (hlv k)
      rw [hpk, hl, lseE, if_neg hu, ← EReal.coe_mul, ← EReal.coe_sub] at hne ⊢
      generalize w k = x at hne ⊢
      induction x using EReal.rec with
      | bot => exact absurd (by rw [bot_sub, EReal.add_bot]) hne
      | top => rfl
      | coe r => rfl

/-! ## The constants -/

theorem bits_zero : Ideal.ofBits .f32 0x00000000#32 = ((0 : ℝ) : EReal) := by simp [Ideal.ofBits, Ideal.ieee]
theorem bits_half : Ideal.ofBits .f32 0x3F000000#32 = ((1 / 2 : ℝ) : EReal) := by simp [Ideal.ofBits, Ideal.ieee, -EReal.coe_mul]; norm_num
theorem bits_neg_half : Ideal.ofBits .f32 0xBF000000#32 = ((-(1 / 2) : ℝ) : EReal) := by simp [Ideal.ofBits, Ideal.ieee, -EReal.coe_mul]; norm_num
theorem bits_two : Ideal.ofBits .f32 0x40000000#32 = ((2 : ℝ) : EReal) := by simp [Ideal.ofBits, Ideal.ieee, -EReal.coe_mul]; norm_num
theorem bits_pi : Ideal.ofBits .f32 0x40490FDB#32 = ((13176795 / 4194304 : ℝ) : EReal) := by simp [Ideal.ofBits, Ideal.ieee, -EReal.coe_mul]; norm_num
theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_low : IsReal (Ideal.ofBits .f32 0xFF61B1E6#32) := by
  simp [Ideal.ofBits, Ideal.ieee, -EReal.coe_mul]; exact ⟨_, rfl⟩

/-- A number whose magnitude is below infinity is real. -/
theorem fin_of_abs_lt {x : EReal} (h : Max.max x (-x) < ⊤) : IsReal x := by
  induction x using EReal.rec with
  | bot => simp at h
  | top => simp at h
  | coe r => exact IsReal.coe r

end Cert.Proof.Mix
-- ==== Proof.Variances.lean ====
/- What the precondition says of the log-variances over the extended reals: none is minus infinity. -/
module

public import proofs.«01_k».proof.Proof.Reals
public import proofs.«01_k».proof.Proof.Gen.Pre_positive_variances
public import Idealize.ShloMosaic.Lib.ReduceAll
public import Idealize.ShloMosaic.Lib.Pointwise

@[expose] public section

noncomputable section

namespace Cert.Proof.Mix

open Cert.Pre_positive_variances Cert.Pre_positive_variances.Facts
open Idealize.ShloMosaic

instance : Subsingleton S_.Idx := ⟨fun i j => funext fun a => a.elim0⟩

theorem logvars_ne_bot [Facts] (a0 : FVec Ideal S4096x64 .f32) (a1 a2 : FVec Ideal S128x64 .f32) (a3 : FVec Ideal S128x1x1 .f32)
    (h : Cert.Pre_positive_variances.fn (F := Ideal) a0 a1 a2 a3 = fun _ => 1#1) (i : S128x64.Idx) : a2 i ≠ ⊥ := by
  have e : Ideal.cmp .ogt (a2 i) (Ideal.ofBits .f32 0xFF800000#32) = 1#1 := Host.reduce_andi_all _ _ _ _ _ (congrFun h fun a => a.elim0) i
  rw [bits_bot] at e
  intro hb
  rw [hb] at e
  simp [Ideal.cmp] at e

end Cert.Proof.Mix
-- ==== Proof.RefValue.lean ====
/- The reference's value over the extended reals, where no log-variance is minus infinity. -/
module

public import proofs.«01_k».proof.Proof.Reals
public import proofs.«01_k».proof.Proof.Gen.ReferenceIdeal.Run
public import Idealize.ShloMosaic.Lib.Pointwise

@[expose] public section

set_option maxRecDepth 16384

noncomputable section

namespace Cert.Proof.Mix.Ref

open Cert.ReferenceIdeal Cert.ReferenceIdeal.Gen
open Idealize.ShloMosaic

/-- The softmax of the weights. -/
def soft (w : FVec Ideal S128x1x1 .f32) : FVec Ideal S128x1x1 .f32 :=
  have e := Host.exp (subf w (broadcastInDim S128x1x1 ![0, 1, 2] bcast_S1x1x1_S128x1x1_0_1_2 (broadcastInDim S1x1x1 ![1, 2] bcast_S1x1_S1x1x1_1_2
    (maximumf (broadcastInDim S1x1 ![] bcast_S_S1x1 (constant S_ .f32 0xFF800000#32)) (Host.reduce FloatOps.maximumf w (constant S_ .f32 0xFF800000#32) reducesTo_S128x1x1_S1x1_d0 h_S_)))))
  Host.divf e (broadcastInDim S128x1x1 ![0, 1, 2] bcast_S1x1x1_S128x1x1_0_1_2 (broadcastInDim S1x1x1 ![1, 2] bcast_S1x1_S1x1x1_1_2
    (Host.reduceAdd e (constant S_ .f32 0x00000000#32) reducesTo_S128x1x1_S1x1_d0 h_S_)))

/-- The weighted log densities of all components. -/
def logp (z : FVec Ideal S4096x64 .f32) (mu lv : FVec Ideal S128x64 .f32) (w : FVec Ideal S128x1x1 .f32) : FVec Ideal S128x4096x64 .f32 :=
  addf (subf (broadcastInDim S128x4096x64 ![0, 1, 2] bcast_S128x1x64_S128x4096x64_0_1_2 (subf (broadcastInDim S128x1x64 ![] bcast_S_S128x1x64 (mulf (constant S_ .f32 0xBF000000#32) (Host.log (mulf (constant S_ .f32 0x40000000#32) (constant S_ .f32 0x40490FDB#32)))))
      (mulf (broadcastInDim S128x1x64 ![] bcast_S_S128x1x64 (constant S_ .f32 0x3F000000#32)) (broadcastInDim S128x1x64 ![0, 2] bcast_S128x64_S128x1x64_0_2 lv))))
    (mulf (broadcastInDim S128x4096x64 ![0, 1, 2] bcast_S128x1x64_S128x4096x64_0_1_2 (mulf (broadcastInDim S128x1x64 ![] bcast_S_S128x1x64 (constant S_ .f32 0x3F000000#32)) (Host.exp (Host.negf (broadcastInDim S128x1x64 ![0, 2] bcast_S128x64_S128x1x64_0_2 lv)))))
      (mulf (subf (broadcastInDim S128x4096x64 ![0, 1, 2] bcast_S1x4096x64_S128x4096x64_0_1_2 (broadcastInDim S1x4096x64 ![1, 2] bcast_S4096x64_S1x4096x64_1_2 z))
        (broadcastInDim S128x4096x64 ![0, 1, 2] bcast_S128x1x64_S128x4096x64_0_1_2 (broadcastInDim S128x1x64 ![0, 2] bcast_S128x64_S128x1x64_0_2 mu)))
        (subf (broadcastInDim S128x4096x64 ![0, 1, 2] bcast_S1x4096x64_S128x4096x64_0_1_2 (broadcastInDim S1x4096x64 ![1, 2] bcast_S4096x64_S1x4096x64_1_2 z))
        (broadcastInDim S128x4096x64 ![0, 1, 2] bcast_S128x1x64_S128x4096x64_0_1_2 (broadcastInDim S128x1x64 ![0, 2] bcast_S128x64_S128x1x64_0_2 mu))))))
    (broadcastInDim S128x4096x64 ![0, 1, 2] bcast_S128x1x1_S128x4096x64_0_1_2 (Host.log (soft w)))

/-- Their largest over the components. -/
def top (P : FVec Ideal S128x4096x64 .f32) : FVec Ideal S4096x64 .f32 :=
  Host.reduce FloatOps.maximumf P (constant S_ .f32 0xFF800000#32) reducesTo_S128x4096x64_S4096x64_d0 h_S_

/-- The same with zero where it is not finite. -/
def guard (M : FVec Ideal S4096x64 .f32) : FVec Ideal S4096x64 .f32 :=
  select (cmpf .olt (Host.absf M) (broadcastInDim S4096x64 ![] bcast_S_S4096x64 (constant S_ .f32 0x7F800000#32))) M
    (broadcastInDim S4096x64 ![] bcast_S_S4096x64 (id (constant S_ .f32 0x00000000#32)))

/-- The logarithm of the sum of their exponentials. -/
def lse (P : FVec Ideal S128x4096x64 .f32) (M : FVec Ideal S4096x64 .f32) : FVec Ideal S64x4096 .f32 :=
  transpose S64x4096 [1, 0] (addf (Host.log (Host.reduceAdd (Host.exp (subf P (broadcastInDim S128x4096x64 ![0, 1, 2] bcast_S1x4096x64_S128x4096x64_0_1_2 (broadcastInDim S1x4096x64 ![1, 2] bcast_S4096x64_S1x4096x64_1_2 M))))
    (constant S_ .f32 0x00000000#32) reducesTo_S128x4096x64_S4096x64_d0 h_S_)) M) transposes_S4096x64_S64x4096_1_0

theorem res_eq (m : (ℓ : Loc nD τ sig) → Buf (Elt Ideal) ℓ) (c : Dev nD) :
    Value.res_out0 m c = (fun P => lse P (guard (top P))) (logp (m ((c.tc : Thread nD τ).loc main_arg0)) (m ((c.tc : Thread nD τ).loc main_arg1)) (m ((c.tc : Thread nD τ).loc main_arg2)) (m ((c.tc : Thread nD τ).loc main_arg3))) := rfl

section
variable (wr : Fin 128 → EReal) (w : FVec Ideal S128x1x1 .f32) (hw : ∀ k, w (ix3 k 0 0) = wr k)
include hw

theorem soft_apply (k : Fin 128) : Ideal.log (soft w (ix3 k 0 0)) = logw wr k := by
  pointwise [soft, bits_bot, hw]
  rw [max_eq_right bot_le, logw_of_max (isMax_fold wr)]
end

theorem logp_apply (k : Fin 128) (b : Fin 4096) (l : Fin 64) (z : FVec Ideal S4096x64 .f32) (mu lv : FVec Ideal S128x64 .f32) (w : FVec Ideal S128x1x1 .f32)
    (wr mr lr : Fin 128 → EReal) (zr : EReal) (hw : ∀ k, w (ix3 k 0 0) = wr k) (hz : z (ix2 b l) = zr)
    (hmu : ∀ k, mu (ix2 k l) = mr k) (hlv : ∀ k, lv (ix2 k l) = lr k) (hlr : ∀ k, lr k ≠ ⊥) :
    logp z mu lv w (ix3 k b l) = term wr mr lr zr k := by
  have hg : ((-(1 / 2) : ℝ) : EReal) * Ideal.log (((2 : ℝ) : EReal) * ((13176795 / 4194304 : ℝ) : EReal)) = (gconst : EReal) := by
    rw [← EReal.coe_mul, log_pos (by norm_num), ← EReal.coe_mul, gconst, neg_mul]
  pointwise [logp, hmu, hlv, hz, soft_apply wr w hw, bits_half, bits_neg_half, bits_two, bits_pi]
  rw [hg, term_of_square wr mr lr zr k (hlr k)]

theorem guard_apply (M : FVec Ideal S4096x64 .f32) (b : Fin 4096) (l : Fin 64) :
    (IsReal (M (ix2 b l)) → guard M (ix2 b l) = M (ix2 b l)) ∧ (¬IsReal (M (ix2 b l)) → guard M (ix2 b l) = 0) := by
  have e : guard M (ix2 b l) = if Ideal.cmp .olt (max (M (ix2 b l)) (-(M (ix2 b l)))) ⊤ = 1#1 then M (ix2 b l) else 0 := by
    rw [← bits_top]
    show (if _ = 1#1 then _ else Ideal.ofBits .f32 0x00000000#32) = _
    rw [bits_zero, EReal.coe_zero]
    rfl
  rw [e]
  generalize M (ix2 b l) = x
  induction x using EReal.rec with
  | bot => exact ⟨fun h => absurd rfl h.ne_bot, fun _ => if_neg (by simp [Ideal.cmp])⟩
  | top => exact ⟨fun h => absurd rfl h.ne_top, fun _ => if_neg (by simp [Ideal.cmp])⟩
  | coe r => exact ⟨fun _ => if_pos (by simp [Ideal.cmp, ← EReal.coe_neg]), fun h => absurd (IsReal.coe r) h⟩

theorem lse_apply (P : FVec Ideal S128x4096x64 .f32) (b : Fin 4096) (l : Fin 64) (t : Fin 128 → EReal) (ht : ∀ k, t k ≠ ⊤) (h : ∀ k, P (ix3 k b l) = t k) :
    lse P (guard (top P)) (ix2 l b) = logSumExp t := by
  have hM : top P (ix2 b l) = Finset.univ.fold max ⊥ t := by pointwise [top, bits_bot, h]
  obtain ⟨h1, h2⟩ := guard_apply (top P) b l
  rw [hM] at h1 h2
  pointwise [lse, h]
  exact logSumExp_guard (isMax_fold t) ht h1 h2

/-- The reference's result. -/
theorem value (m : (ℓ : Loc nD τ sig) → Buf (Elt Ideal) ℓ) (c : Dev nD) (b : Fin 4096) (l : Fin 64) (wr mr lr : Fin 128 → EReal) (zr : EReal)
    (hw : ∀ k, (m ((c.tc : Thread nD τ).loc main_arg3) : FVec Ideal S128x1x1 .f32) (ix3 k 0 0) = wr k)
    (hmu : ∀ k, (m ((c.tc : Thread nD τ).loc main_arg1) : FVec Ideal S128x64 .f32) (ix2 k l) = mr k)
    (hlv : ∀ k, (m ((c.tc : Thread nD τ).loc main_arg2) : FVec Ideal S128x64 .f32) (ix2 k l) = lr k)
    (hz : (m ((c.tc : Thread nD τ).loc main_arg0) : FVec Ideal S4096x64 .f32) (ix2 b l) = zr) (hlr : ∀ k, lr k ≠ ⊥) :
    (Value.res_out0 m c : FVec Ideal S64x4096 .f32) (ix2 l b) = spec wr mr lr zr := by
  rw [res_eq]
  exact lse_apply _ b l _ (term_ne_top wr mr lr zr) fun k => logp_apply k b l _ _ _ _ wr mr lr zr hw hz hmu hlv hlr

end Cert.Proof.Mix.Ref
-- ==== Proof.OutValue.lean ====
/- The grid kernel's blocks read at coordinates: its operands' blocks, and its result's array at the end. -/
module

public import proofs.«01_k».proof.Proof.Main
public import Idealize.ShloMosaic.Lib.Pipeline.ValueKit
public import Idealize.ShloMosaic.Lib.Pointwise

@[expose] public section

set_option maxRecDepth 16384

noncomputable section

namespace Cert.Proof.Mix

open Cert.KernelIdeal Cert.KernelIdeal.Gen
open Idealize.ShloMosaic
open Idealize.ShloMosaic.TcCoe
open Idealize.ShloMosaic.Pipeline (Dat Cfg Window)

variable {F : FTy → Type} [FloatOps F] [Named F]
variable (V : Vals F) (c : Dev nD)

/-- The grid points are 24. -/
theorem point_lt (t : Fin cfg1.N) : t.val < 24 := t.isLt

theorem index4 : ∀ t : Fin cfg1.N, win1_4.index t 0 = t.val ∧ win1_4.index t 1 = 0 := by decide +kernel
theorem index0 : ∀ t : Fin cfg1.N, win1_0.index t 0 = t.val ∧ win1_0.index t 1 = 0 := by decide +kernel

/-- A block of samples is 64 rows of the array. -/
theorem zBlk_apply (t : Fin cfg1.N) (r : Fin 64) (x : Fin 128) (R : Fin 2048) (hR : R.val = 64 * t.val + r.val) :
    zBlk V c t (ix2 r x) = (V c main_v0 : FVec F S2048x128 .f32) (ix2 R x) := by
  unfold zBlk
  obtain ⟨h0, h1⟩ := index0 t
  rw [View.read_apply]
  refine congrArg (V c main_v0) ?_
  funext a
  refine Fin.ext ?_
  match a with
  | 0 => blk_simp [h0]; omega
  | 1 => blk_simp [h1]

/-- The means, the log-variances and the weights are their arrays whole. -/
theorem muA_apply (k x : Fin 128) : muA V c (ix2 k x) = (V c main_v8 : FVec F S128x128 .f32) (ix2 k x) := by
  unfold muA muBlk
  rw [View.read_apply]
  refine congrArg (V c main_v8) ?_
  funext a
  refine Fin.ext ?_
  match a with
  | 0 => blk_simp; exact (congrArg (· * 128 + _) (show win1_1.index t0 0 = 0 by decide)).trans (by omega)
  | 1 => blk_simp; exact (congrArg (· * 128 + _) (show win1_1.index t0 1 = 0 by decide)).trans (by omega)

theorem lvA_apply (k x : Fin 128) : lvA V c (ix2 k x) = (V c main_v11 : FVec F S128x128 .f32) (ix2 k x) := by
  unfold lvA lvBlk
  rw [View.read_apply]
  refine congrArg (V c main_v11) ?_
  funext a
  refine Fin.ext ?_
  match a with
  | 0 => blk_simp; exact (congrArg (· * 128 + _) (show win1_2.index t0 0 = 0 by decide)).trans (by omega)
  | 1 => blk_simp; exact (congrArg (· * 128 + _) (show win1_2.index t0 1 = 0 by decide)).trans (by omega)

theorem wA_apply (k : Fin 128) : wA V c (ix2 0 k) = (V c main_v12 : FVec F S1x128 .f32) (ix2 0 k) := by
  unfold wA wBlk
  rw [View.read_apply]
  refine congrArg (V c main_v12) ?_
  funext a
  refine Fin.ext ?_
  match a with
  | 0 => blk_simp; exact (show win1_3.index t0 0 = 0 by decide)
  | 1 => blk_simp; exact (congrArg (· * 128 + _) (show win1_3.index t0 1 = 0 by decide)).trans (by omega)

theorem oBlk_congr {t t' : Fin cfg1.N} {y y' : S64x128.Idx} (ht : t.val = t'.val) (h0 : (y 0).val = (y' 0).val) (h1 : (y 1).val = (y' 1).val) :
    oBlk V c t y = oBlk V c t' y' := by
  obtain rfl : t = t' := Fin.ext ht
  refine congrArg _ (funext fun a => Fin.ext ?_)
  match a with
  | 0 => exact h0
  | 1 => exact h1

/-- The result's array: sixty-four rows of it from each point. -/
theorem outT_apply (t : Fin cfg1.N) (r : Fin 64) (x : Fin 128) (R : Fin 1536) (hR : R.val = 64 * t.val + r.val) :
    (outT V c : FVec F S1536x128 .f32) (ix2 R x) = oBlk V c t (ix2 r x) := by
  have h : outT V c = (fun i => oBlk V c ⟨(i 0).val / 64, by
      have h : (i 0).val < 1536 := (i 0).isLt
      show _ < 24
      omega⟩ (ix2 ⟨(i 0).val % 64, by omega⟩ ⟨(i 1).val, (i 1).isLt⟩) : FVec F S1536x128 .f32) := by
    unfold outT
    refine (dat V c).arrAt_eq_of_covers 4 _ (by decide +kernel) fun t hf y => ?_
    obtain ⟨h0, h1⟩ := index4 t
    have hy0 : (y 0).val < 64 := (y 0).isLt
    have hy1 : (y 1).val < 128 := (y 1).isLt
    blk_simp
    refine oBlk_congr V c ?_ ?_ ?_
    · show t.val = (win1_4.index t 0 * 64 + (y 0).val) / 64
      omega
    · show (y 0).val = (win1_4.index t 0 * 64 + (y 0).val) % 64
      omega
    · show (y 1).val = win1_4.index t 1 * 128 + (y 1).val
      omega
  rw [h]
  have ht := point_lt t
  refine (oBlk_congr V c ?_ ?_ ?_).symm
  · show t.val = R.val / 64
    omega
  · show r.val = R.val % 64
    omega
  · rfl

end Cert.Proof.Mix
-- ==== Proof.TcValue.lean ====
/- The grid kernel's block over the extended reals, where no log-variance that it reads is minus infinity. -/
module

public import proofs.«01_k».proof.Proof.Reals
public import proofs.«01_k».proof.Proof.Tensor
public import Idealize.ShloMosaic.Lib.Pointwise

@[expose] public section

set_option maxRecDepth 16384

noncomputable section

namespace Cert.Proof.Mix

open Cert.KernelIdeal Cert.KernelIdeal.Gen
open Idealize.ShloMosaic

/-- The named constant is the formula's. -/
theorem named_eq : (Named.named (F := Ideal) κ "neg_half_log_two_pi" 0xBF6B3F8E#32 : Ideal .f32) = ((gconst : ℝ) : EReal) := rfl

theorem rowT_apply (A : TT Ideal) (k : Fin 128) (x : Fin 128) : rowT A k (ix2 0 x) = A (ix2 k x) := by
  unfold rowT
  refine congrArg A ?_
  funext a
  match a with
  | 0 => rfl
  | 1 => rfl

/-! ## Folds over 128 rows -/

theorem iter128_sum {S : Shape} (f : Fin 128 → FVec Ideal S .f32 → FVec Ideal S .f32) (s : FVec Ideal S .f32) (j : S.Idx) (g : Fin 128 → EReal)
    (h : ∀ k s, f k s j = s j + g k) : iter128 f s 128 j = s j + ∑ k, g k := by
  have : ∀ n, n ≤ 128 → iter128 f s n j = s j + ∑ i ∈ Finset.range n, if h : i < 128 then g ⟨i, h⟩ else 0 := fun n => by
    induction n with
    | zero => intro _; simp [iter128]
    | succ n ih =>
      intro hn
      have hn' : n < 128 := by omega
      rw [Finset.sum_range_succ, dif_pos hn', ← add_assoc, ← ih (by omega), ← h ⟨n, hn'⟩]
      show (if h : n < 128 then f ⟨n, h⟩ (iter128 f s n) else iter128 f s n) j = _
      rw [dif_pos hn']
  rw [this 128 le_rfl, Finset.sum_range]
  exact congrArg _ (Finset.sum_congr rfl fun k _ => dif_pos k.isLt)

theorem iter128_real {S : Shape} (f : Fin 128 → FVec Ideal S .f32 → FVec Ideal S .f32) (s : FVec Ideal S .f32) (j : S.Idx)
    (hs : IsReal (s j)) (h : ∀ k s, IsReal (s j) → IsReal (f k s j)) : ∀ n, IsReal (iter128 f s n j)
  | 0 => hs
  | n + 1 => by
    show IsReal ((if h : n < 128 then f ⟨n, h⟩ (iter128 f s n) else iter128 f s n) j)
    split
    · exact h _ _ (iter128_real f s j hs h n)
    · exact iter128_real f s j hs h n

section
variable (w : T1 Ideal) (mu lv : TT Ideal) (z : TZ Ideal) (wr : Fin 128 → EReal) (hw : ∀ k, w (ix2 0 k) = wr k)
  (x : Fin 128) (mr lr : Fin 128 → EReal) (hmu : ∀ k, mu (ix2 k x) = mr k) (hlv : ∀ k, lv (ix2 k x) = lr k)
  (r : Fin 64) (zr : EReal) (hz : z (ix2 r x) = zr)

/-- The weights as the kernel holds them, a row. -/
theorem isMax_row (wr : Fin 128 → EReal) : IsMax wr ((Finset.univ : Finset (Fin 1 × Fin 128)).fold max ⊥ fun k => wr k.2) := by
  obtain ⟨h, k, e⟩ := isMax_fold fun k : Fin 1 × Fin 128 => wr k.2
  exact ⟨fun k => h (0, k), k.2, e⟩

theorem lse_row (wr : Fin 128 → EReal) (M : EReal) (h : IsMax wr M) : M + Ideal.log (∑ k : Fin 128, Ideal.exp (wr k - M)) = lseE wr := lseE_of_max h

/-- The normalised log weight with its constant, as both kernels compute it. -/
def cst (wr lr : Fin 128 → EReal) (k : Fin 128) : EReal := ((gconst : EReal) - ((1 / 2 : ℝ) : EReal) * lr k) + (wr k - lseE wr)

/-- The exponent of a component, as both kernels compute it. -/
def expoE (wr mr lr : Fin 128 → EReal) (zr m0 : EReal) (k : Fin 128) : EReal :=
  ((-(1 / 2) : ℝ) : EReal) * Ideal.exp (0 - lr k) * (zr * zr) + Ideal.exp (0 - lr k) * mr k * zr
    + ((cst wr lr k + ((-(1 / 2) : ℝ) : EReal) * Ideal.exp (0 - lr k) * (mr k * mr k)) - m0)

include hw hlv in
theorem pk_apply (k : Fin 128) : (k1_pay16 lv w : TT Ideal) (ix2 k x) = cst wr lr k := by
  pointwise [k1_pay16, hw, hlv, bits_half, bits_bot, named_eq]
  simp only [Finset.univ_unique, Finset.sum_singleton]
  rw [show ∀ y : EReal, Scalar.log (F := Ideal) (φ := .f32) y = Ideal.log y from fun _ => rfl]
  exact congrArg (fun e => ((gconst : EReal) - ((1 / 2 : ℝ) : EReal) * lr k) + (wr k - e)) (lse_row wr _ (isMax_row wr))

include hw hlv in
theorem m0_max : IsMax (cst wr lr) (tM0 w lv (ix2 0 x)) := by
  pointwise [tM0, k1_pay2, k1_pay17, bits_bot, pk_apply w lv wr hw x lr hlv]
  exact isMax_fold _

include hw hlv hmu hz in
/-- The exponent of component `k`, as the three folds spell it. -/
theorem tExpo (k : Fin 128) :
    tA lv (ix2 k x) * (z (ix2 r x) * z (ix2 r x)) + tC mu lv (ix2 k x) * z (ix2 r x) + tD w mu lv (ix2 k x) = expoE wr mr lr zr (tM0 w lv (ix2 0 x)) k := by
  have hm : (k1_pay17 lv w : T1 Ideal) (ix2 0 x) = tM0 w lv (ix2 0 x) := by pointwise [tM0, k1_pay2]
  pointwise [tA, tC, tD, k1_pay1, k1_pay18, k1_pay19, k1_pay15, k1_pay14, hlv, hmu, hz, pk_apply w lv wr hw x lr hlv, hm, bits_neg_half]
  rfl

include hw hlv hmu hz in
theorem tSum_apply : tSum (tA lv) (tC mu lv) (tD w mu lv) z 128 (ix2 r x) = ∑ k, Ideal.exp (expoE wr mr lr zr (tM0 w lv (ix2 0 x)) k) := by
  rw [tSum, iter128_sum _ _ _ fun k => Ideal.exp (expoE wr mr lr zr (tM0 w lv (ix2 0 x)) k)]
  · pointwise [k1_pay5]
  · intro k s
    rw [← tExpo w mu lv z wr hw x mr lr hmu hlv r zr hz k]
    pointwise [k1_pay6, k1_pay4, k1_pay3, rowT_apply]

include hw hlv hmu hz in
theorem tMax_real (h : ∀ k, expoE wr mr lr zr (tM0 w lv (ix2 0 x)) k ≠ ⊤) : IsReal (tMax (tA lv) (tC mu lv) (tD w mu lv) z 128 (ix2 r x)) := by
  refine iter128_real _ _ _ ?_ (fun k s hs => ?_) 128
  · pointwise [k1_pay9]
    exact bits_low
  · have e := tExpo w mu lv z wr hw x mr lr hmu hlv r zr hz k
    pointwise [k1_pay10, k1_pay4, k1_pay3, rowT_apply]
    rw [e]
    exact hs.max (h k)

include hw hlv hmu hz in
theorem tSumM_apply : tSumM (tA lv) (tC mu lv) (tD w mu lv) z 128 (ix2 r x)
    = ∑ k, Ideal.exp (expoE wr mr lr zr (tM0 w lv (ix2 0 x)) k - tMax (tA lv) (tC mu lv) (tD w mu lv) z 128 (ix2 r x)) := by
  rw [tSumM, iter128_sum _ _ _ fun k => Ideal.exp (expoE wr mr lr zr (tM0 w lv (ix2 0 x)) k - tMax (tA lv) (tC mu lv) (tD w mu lv) z 128 (ix2 r x))]
  · pointwise [k1_pay11]
  · intro k s
    rw [← tExpo w mu lv z wr hw x mr lr hmu hlv r zr hz k]
    pointwise [k1_pay12, k1_pay4, k1_pay3, rowT_apply]

include hw hlv hmu hz in
/-- The block holds the mixture's log densities. -/
theorem tOut_apply (hlr : ∀ k, lr k ≠ ⊥) : tOut (tA lv) (tC mu lv) (tD w mu lv) (tM0 w lv) z (ix2 r x) = spec wr mr lr zr := by
  obtain ⟨hle, hatt⟩ := m0_max w lv wr hw x lr hlv
  have ht := term_ne_top wr mr lr zr
  have hs : Shifted (expoE wr mr lr zr (tM0 w lv (ix2 0 x))) (term wr mr lr zr) (tM0 w lv (ix2 0 x)) :=
    shifted_terms wr mr lr zr _ (cst wr lr) hlr (fun _ => rfl) hle (.inr hatt)
  obtain ⟨p, hp⟩ := tMax_real w mu lv z wr hw x mr lr hmu hlv r zr hz (hs.ne_top ht)
  unfold tOut
  split
  · have h := tSumM_apply w mu lv z wr hw x mr lr hmu hlv r zr hz
    rw [hp] at h
    pointwise [k1_pay13, hp, h]
    exact hs.two ht p
  · have h := tSum_apply w mu lv z wr hw x mr lr hmu hlv r zr hz
    pointwise [k1_pay7, h]
    exact hs.one ht

end

end Cert.Proof.Mix
-- ==== Proof.ScValue.lean ====
/- The vector subcores' row over the extended reals, where no log-variance that it is computed from is minus infinity. -/
module

public import proofs.«01_k».proof.Proof.Reals
public import proofs.«01_k».proof.Proof.Tile
public import proofs.«01_k».proof.Proof.TcValue
public import Idealize.ShloMosaic.Lib.Pointwise

@[expose] public section

set_option maxRecDepth 16384

noncomputable section

namespace Cert.Proof.Mix

open Cert.KernelIdeal Cert.KernelIdeal.Gen Cert.Proof.Trips
open Idealize.ShloMosaic

/-! ## The lane shuffles -/

/-- A lane's partner at distance `n`, a power of two. -/
def flip (n : Nat) (i : Fin 16) : Fin 16 := ⟨(i.val ^^^ n) % 16, Nat.mod_lt _ (by decide)⟩

theorem lanes (i : Fin 16) : i = 0 ∨ i = 1 ∨ i = 2 ∨ i = 3 ∨ i = 4 ∨ i = 5 ∨ i = 6 ∨ i = 7 ∨ i = 8 ∨ i = 9 ∨ i = 10 ∨ i = 11 ∨ i = 12 ∨ i = 13 ∨ i = 14 ∨ i = 15 := by decide +revert

theorem shuf1_apply (v : V16 Ideal) (i : Fin 16) : shuf1 v (ix1 i) = v (ix1 (flip 1 i)) := by
  pointwise [shuf1]
  obtain rfl | rfl | rfl | rfl | rfl | rfl | rfl | rfl | rfl | rfl | rfl | rfl | rfl | rfl | rfl | rfl := lanes i
  all_goals rfl
theorem shuf2_apply (v : V16 Ideal) (i : Fin 16) : shuf2 v (ix1 i) = v (ix1 (flip 2 i)) := by
  pointwise [shuf2]
  obtain rfl | rfl | rfl | rfl | rfl | rfl | rfl | rfl | rfl | rfl | rfl | rfl | rfl | rfl | rfl | rfl := lanes i
  all_goals rfl
theorem shuf4_apply (v : V16 Ideal) (i : Fin 16) : shuf4 v (ix1 i) = v (ix1 (flip 4 i)) := by
  pointwise [shuf4]
  obtain rfl | rfl | rfl | rfl | rfl | rfl | rfl | rfl | rfl | rfl | rfl | rfl | rfl | rfl | rfl | rfl := lanes i
  all_goals rfl
theorem shuf8_apply (v : V16 Ideal) (i : Fin 16) : shuf8 v (ix1 i) = v (ix1 (flip 8 i)) := by
  pointwise [shuf8]
  obtain rfl | rfl | rfl | rfl | rfl | rfl | rfl | rfl | rfl | rfl | rfl | rfl | rfl | rfl | rfl | rfl := lanes i
  all_goals rfl

theorem flips : (flip 1 0 = 1 ∧ flip 1 1 = 0 ∧ flip 1 2 = 3 ∧ flip 1 3 = 2 ∧ flip 1 4 = 5 ∧ flip 1 5 = 4 ∧ flip 1 6 = 7 ∧ flip 1 7 = 6 ∧ flip 1 8 = 9 ∧ flip 1 9 = 8 ∧ flip 1 10 = 11 ∧ flip 1 11 = 10 ∧ flip 1 12 = 13 ∧ flip 1 13 = 12 ∧ flip 1 14 = 15 ∧ flip 1 15 = 14)
    ∧ (flip 2 0 = 2 ∧ flip 2 1 = 3 ∧ flip 2 2 = 0 ∧ flip 2 3 = 1 ∧ flip 2 4 = 6 ∧ flip 2 5 = 7 ∧ flip 2 6 = 4 ∧ flip 2 7 = 5 ∧ flip 2 8 = 10 ∧ flip 2 9 = 11 ∧ flip 2 10 = 8 ∧ flip 2 11 = 9 ∧ flip 2 12 = 14 ∧ flip 2 13 = 15 ∧ flip 2 14 = 12 ∧ flip 2 15 = 13)
    ∧ (flip 4 0 = 4 ∧ flip 4 1 = 5 ∧ flip 4 2 = 6 ∧ flip 4 3 = 7 ∧ flip 4 4 = 0 ∧ flip 4 5 = 1 ∧ flip 4 6 = 2 ∧ flip 4 7 = 3 ∧ flip 4 8 = 12 ∧ flip 4 9 = 13 ∧ flip 4 10 = 14 ∧ flip 4 11 = 15 ∧ flip 4 12 = 8 ∧ flip 4 13 = 9 ∧ flip 4 14 = 10 ∧ flip 4 15 = 11)
    ∧ (flip 8 0 = 8 ∧ flip 8 1 = 9 ∧ flip 8 2 = 10 ∧ flip 8 3 = 11 ∧ flip 8 4 = 12 ∧ flip 8 5 = 13 ∧ flip 8 6 = 14 ∧ flip 8 7 = 15 ∧ flip 8 8 = 0 ∧ flip 8 9 = 1 ∧ flip 8 10 = 2 ∧ flip 8 11 = 3 ∧ flip 8 12 = 4 ∧ flip 8 13 = 5 ∧ flip 8 14 = 6 ∧ flip 8 15 = 7) := by decide

theorem gather16 (f : EReal → EReal → EReal) [Std.Commutative f] [Std.Associative f] (g : Fin 16 → EReal) (i : Fin 16) :
    f (f (f (f (g i) (g (flip 1 i))) (f (g (flip 2 i)) (g (flip 1 (flip 2 i))))) (f (f (g (flip 4 i)) (g (flip 1 (flip 4 i)))) (f (g (flip 2 (flip 4 i))) (g (flip 1 (flip 2 (flip 4 i)))))))
      (f (f (f (g (flip 8 i)) (g (flip 1 (flip 8 i)))) (f (g (flip 2 (flip 8 i))) (g (flip 1 (flip 2 (flip 8 i)))))) (f (f (g (flip 4 (flip 8 i))) (g (flip 1 (flip 4 (flip 8 i))))) (f (g (flip 2 (flip 4 (flip 8 i)))) (g (flip 1 (flip 2 (flip 4 (flip 8 i))))))))
    = f (g 0) (f (g 1) (f (g 2) (f (g 3) (f (g 4) (f (g 5) (f (g 6) (f (g 7) (f (g 8) (f (g 9) (f (g 10) (f (g 11) (f (g 12) (f (g 13) (f (g 14) (g 15))))))))))))))) := by
  obtain rfl | rfl | rfl | rfl | rfl | rfl | rfl | rfl | rfl | rfl | rfl | rfl | rfl | rfl | rfl | rfl := lanes i
  all_goals simp only [flips]; ac_rfl

/-- A lane-wise operation folded over the lanes, for a commutative and associative operation, is the same in every lane. -/
theorem bfly_apply (op : V16 Ideal → V16 Ideal → V16 Ideal) (f : EReal → EReal → EReal) [Std.Commutative f] [Std.Associative f]
    (h : ∀ u v i, op u v i = f (u i) (v i)) (v : V16 Ideal) (i : Fin 16) :
    bfly op v (ix1 i) = f (v (ix1 0)) (f (v (ix1 1)) (f (v (ix1 2)) (f (v (ix1 3)) (f (v (ix1 4)) (f (v (ix1 5)) (f (v (ix1 6)) (f (v (ix1 7)) (f (v (ix1 8)) (f (v (ix1 9)) (f (v (ix1 10)) (f (v (ix1 11)) (f (v (ix1 12)) (f (v (ix1 13)) (f (v (ix1 14)) (v (ix1 15)))))))))))))))) := by
  unfold bfly
  simp only [h, shuf1_apply, shuf2_apply, shuf4_apply, shuf8_apply]
  exact gather16 f (fun i => v (ix1 i)) i

theorem bfly_max_lane (v : V16 Ideal) (i j : Fin 16) : bfly maximumf v (ix1 i) = bfly maximumf v (ix1 j) := by
  rw [bfly_apply maximumf (fun a b : EReal => max a b) (fun _ _ _ => rfl), bfly_apply maximumf (fun a b : EReal => max a b) (fun _ _ _ => rfl)]

theorem max_closed (P : EReal → Prop) {x y : EReal} (hx : P x) (hy : P y) : P (max x y) := by
  rcases max_choice x y with h | h <;> rw [h] <;> assumption

theorem bfly_max (v : V16 Ideal) (i : Fin 16) : IsMax (fun j : Fin 16 => v (ix1 j)) (bfly maximumf v (ix1 i)) := by
  rw [bfly_apply maximumf (fun a b : EReal => max a b) (fun _ _ _ => rfl)]
  constructor
  · intro j
    dsimp only
    obtain rfl | rfl | rfl | rfl | rfl | rfl | rfl | rfl | rfl | rfl | rfl | rfl | rfl | rfl | rfl | rfl := lanes j
    all_goals simp only [le_max_iff, le_refl, true_or, or_true]
  · repeat' apply max_closed fun y => ∃ j : Fin 16, y = v (ix1 j)
    all_goals exact ⟨_, rfl⟩

/-- The larger of a start and eight numbers. -/
theorem max8 (b : EReal) (g : Fin 8 → EReal) :
    (∀ c, g c ≤ max (max (max (max (max (max (max (max b (g 0)) (g 1)) (g 2)) (g 3)) (g 4)) (g 5)) (g 6)) (g 7))
      ∧ (max (max (max (max (max (max (max (max b (g 0)) (g 1)) (g 2)) (g 3)) (g 4)) (g 5)) (g 6)) (g 7) = b
        ∨ ∃ c, max (max (max (max (max (max (max (max b (g 0)) (g 1)) (g 2)) (g 3)) (g 4)) (g 5)) (g 6)) (g 7) = g c) := by
  constructor
  · intro c
    fin_cases c
    all_goals simp only [Fin.mk_one, Fin.zero_eta, Fin.reduceFinMk, le_max_iff, le_refl, true_or, or_true]
  · repeat' apply max_closed fun y => y = b ∨ ∃ c, y = g c
    all_goals first | exact .inl rfl | exact .inr ⟨_, rfl⟩

theorem sum16 (g : Fin 16 → EReal) : g 0 + (g 1 + (g 2 + (g 3 + (g 4 + (g 5 + (g 6 + (g 7 + (g 8 + (g 9 + (g 10 + (g 11 + (g 12 + (g 13 + (g 14 + (g 15))))))))))))))) = ∑ i, g i := by
  simp only [Fin.sum_univ_succ, Fin.sum_univ_zero, add_zero]
  rfl

theorem bfly_add_apply (v : V16 Ideal) (i : Fin 16) : bfly addf v (ix1 i) = ∑ j, v (ix1 j) := by
  rw [bfly_apply addf (fun a b : EReal => a + b) (fun _ _ _ => rfl)]
  exact sum16 fun j => v (ix1 j)

/-! ## Sums over the eight chunks of sixteen -/

/-- A place of a table as its chunk and lane. -/
def places : Fin 8 × Fin 16 ≃ Fin 128 where
  toFun p := at16 p.1 p.2
  invFun n := (chunkOf n, laneOf n)
  left_inv p := by simp only [chunkOf_at16, laneOf_at16]
  right_inv n := at16_chunkOf n

theorem sum_places (g : Fin 128 → EReal) : ∑ c : Fin 8, ∑ j : Fin 16, g (at16 c j) = ∑ k, g k := by
  rw [← Fintype.sum_prod_type']
  exact places.sum_comp g

/-- The larger of a start and all places of a table, folded chunk by chunk in each lane and then over the lanes. -/
theorem bfly_max8 (b : EReal) (g : Fin 128 → EReal) (v : V16 Ideal) (i : Fin 16)
    (h : ∀ j, v (ix1 j) = max (max (max (max (max (max (max (max b (g (at16 0 j))) (g (at16 1 j))) (g (at16 2 j))) (g (at16 3 j))) (g (at16 4 j))) (g (at16 5 j))) (g (at16 6 j))) (g (at16 7 j))) :
    (∀ k, g k ≤ bfly maximumf v (ix1 i)) ∧ (bfly maximumf v (ix1 i) = b ∨ ∃ k, bfly maximumf v (ix1 i) = g k) := by
  obtain ⟨hle, j, e⟩ := bfly_max v i
  constructor
  · intro k
    rw [← at16_chunkOf k]
    refine le_trans ?_ (hle (laneOf k))
    dsimp only
    rw [h]
    exact (max8 b fun c => g (at16 c (laneOf k))).1 (chunkOf k)
  · rw [e]
    dsimp only
    rw [h]
    rcases (max8 b fun c => g (at16 c j)).2 with h' | ⟨c, h'⟩
    · exact .inl h'
    · exact .inr ⟨_, h'⟩

theorem sum8 (g : Fin 8 → EReal) : g 0 + g 1 + g 2 + g 3 + g 4 + g 5 + g 6 + g 7 = ∑ c, g c := by
  rw [Fin.sum_univ_eight]

theorem iter8_sum (f : Fin 8 → V16 Ideal → V16 Ideal) (s : V16 Ideal) (j : S16.Idx) (g : Fin 8 → EReal) (h : ∀ c s, f c s j = s j + g c) :
    iter8 f s 8 j = s j + ∑ c, g c := by
  have e : iter8 f s 8 = f 7 (f 6 (f 5 (f 4 (f 3 (f 2 (f 1 (f 0 s))))))) := rfl
  rw [e, ← sum8]
  simp only [h, add_assoc]

theorem iter8_real (f : Fin 8 → V16 Ideal → V16 Ideal) (s : V16 Ideal) (j : S16.Idx) (hs : IsReal (s j)) (h : ∀ c s, IsReal (s j) → IsReal (f c s j)) :
    IsReal (iter8 f s 8 j) := by
  have e : iter8 f s 8 = f 7 (f 6 (f 5 (f 4 (f 3 (f 2 (f 1 (f 0 s))))))) := rfl
  rw [e]
  exact h _ _ (h _ _ (h _ _ (h _ _ (h _ _ (h _ _ (h _ _ (h _ _ hs)))))))

/-! ## One trip in one lane -/

theorem c16_eq (v : V16 Ideal) : c16 v = v := by
  funext j
  obtain ⟨i, rfl⟩ : ∃ i : Fin 16, j = ix1 i := ⟨j 0, eq_ix1 j⟩
  pointwise [c16]

section Trip
variable (a c d z q : V16 Ideal) (i : Fin 16)

/-- The exponent of entry `j` in lane `i`. -/
def ex (j : Fin 16) : EReal := a (ix1 j) * q (ix1 i) + c (ix1 j) * z (ix1 i) + d (ix1 j)

theorem sumTrip_apply (s : V16 Ideal) : sumTrip a c d z q s (ix1 i) = s (ix1 i) + ∑ j, Ideal.exp (ex a c d z q i j) := by
  rw [← sum16]
  pointwise [sumTrip, expo, lane, ex]
  simp only [add_assoc]

theorem sumTripM_apply (m s : V16 Ideal) : sumTripM a c d z q m s (ix1 i) = s (ix1 i) + ∑ j, Ideal.exp (ex a c d z q i j - m (ix1 i)) := by
  rw [← sum16]
  pointwise [sumTripM, expo, lane, ex]
  simp only [add_assoc]

theorem maxTrip_real (s : V16 Ideal) (h : ∀ j, ex a c d z q i j ≠ ⊤) (hs : IsReal (s (ix1 i))) : IsReal (maxTrip a c d z q s (ix1 i)) := by
  pointwise [maxTrip, expo, lane]
  repeat' apply IsReal.max
  all_goals first | exact hs | exact h _
end Trip

theorem nth_tup (x : Fin 8 → V16 Ideal) (k : Fin 8) : nth (tup x) k = x k := by
  fin_cases k <;> rfl

theorem nth_sum (a c d : V16 Ideal) (z q s : V8 Ideal) (k : Fin 8) : nth (sumTrip8 a c d z q s) k = sumTrip a c d (nth z k) (nth q k) (nth s k) := by
  fin_cases k <;> rfl
theorem nth_max (a c d : V16 Ideal) (z q s : V8 Ideal) (k : Fin 8) : nth (maxTrip8 a c d z q s) k = maxTrip a c d (nth z k) (nth q k) (nth s k) := by
  fin_cases k <;> rfl
theorem nth_sumM (a c d : V16 Ideal) (z q m s : V8 Ideal) (k : Fin 8) : nth (sumTripM8 a c d z q m s) k = sumTripM a c d (nth z k) (nth q k) (nth m k) (nth s k) := by
  fin_cases k <;> rfl

theorem nth_iter (f : Fin 8 → V8 Ideal → V8 Ideal) (g : Fin 8 → V16 Ideal → V16 Ideal) (k : Fin 8) (h : ∀ c s, nth (f c s) k = g c (nth s k)) (s : V8 Ideal) :
    nth (iter8 f s 8) k = iter8 g (nth s k) 8 := by
  have e : iter8 f s 8 = f 7 (f 6 (f 5 (f 4 (f 3 (f 2 (f 1 (f 0 s))))))) := rfl
  have e' : iter8 g (nth s k) 8 = g 7 (g 6 (g 5 (g 4 (g 3 (g 2 (g 1 (g 0 (nth s k)))))))) := rfl
  rw [e, e']
  simp only [h]

/-! ## The weights -/

section Weights
variable (w : Fin 8 → V16 Ideal) (wr : Fin 128 → EReal) (hw : ∀ c j, w c (ix1 j) = wr (at16 c j))
include hw

theorem wmax_max : IsMax wr (wmaxV w (ix1 0)) := by
  have h := bfly_max8 (⊥ : EReal) wr (maximumf (maximumf (maximumf (maximumf (maximumf (maximumf (maximumf (c16 (w 0)) (c16 (w 1))) (c16 (w 2))) (c16 (w 3))) (c16 (w 4))) (c16 (w 5))) (c16 (w 6))) (c16 (w 7))) 0 (fun j => by
    pointwise [c16_eq, hw]
    rw [max_eq_right bot_le])
  refine ⟨h.1, ?_⟩
  rcases h.2 with h' | h'
  · exact ⟨0, h'.trans (le_bot_iff.mp ((h.1 0).trans (le_of_eq h'))).symm⟩
  · exact h'

theorem lse_lane (i : Fin 16) : lseV w (ix1 i) = lseE wr := by
  have hm : ∀ j, wmaxV w (ix1 j) = wmaxV w (ix1 0) := fun j => bfly_max_lane _ j 0
  have hx : ∀ c j, wexp w c (ix1 j) = Ideal.exp (wr (at16 c j) - wmaxV w (ix1 0)) := fun c j => by
    pointwise [wexp, c16_eq, hw]
    rw [hm]
  have hs : ∀ v : V16 Ideal, bfly addf v (ix1 i) = ∑ j, v (ix1 j) := fun v => bfly_add_apply v i
  unfold lseV
  rw [show ∀ (u v : V16 Ideal) (t : S16.Idx), addf u v t = u t + v t from fun _ _ _ => rfl,
    show ∀ (u : V16 Ideal) (t : S16.Idx), log u t = Ideal.log (u t) from fun _ _ => rfl, hm, hs]
  pointwise [k16, hx]
  rw [Finset.sum_congr rfl fun j _ => sum8 fun c => Ideal.exp (wr (at16 c j) - wmaxV w (ix1 0)), Finset.sum_comm, sum_places fun k => Ideal.exp (wr k - wmaxV w (ix1 0))]
  exact lseE_of_max (wmax_max w wr hw)

end Weights

/-! ## One row -/

section Row
variable (lse : V16 Ideal) (w mu lv z : Fin 8 → V16 Ideal) (wr mr lr : Fin 128 → EReal)
  (hlse : ∀ i, lse (ix1 i) = lseE wr) (hw : ∀ c j, w c (ix1 j) = wr (at16 c j))
  (hmu : ∀ c j, mu c (ix1 j) = mr (at16 c j)) (hlv : ∀ c j, lv c (ix1 j) = lr (at16 c j))
  (k : Fin 8) (i : Fin 16) (zr : EReal) (hz : z k (ix1 i) = zr)

theorem nth_sums (k : Fin 8) : nth (sumsAt lse w mu lv z 8) k
    = iter8 (fun c s => sumTrip (aT lv c) (cT mu lv c) (dT lse w mu lv c) (z k) (sqV z k) s) (k16 0x00000000#32) 8 :=
  (nth_iter _ (fun c s => sumTrip (aT lv c) (cT mu lv c) (dT lse w mu lv c) (z k) (sqV z k) s) k
    (fun c s => by rw [nth_sum, nth_tup, nth_tup]) _).trans (by rw [nth_tup])

theorem nth_maxs (k : Fin 8) : nth (maxsAt lse w mu lv z 8) k
    = iter8 (fun c s => maxTrip (aT lv c) (cT mu lv c) (dT lse w mu lv c) (z k) (sqV z k) s) (k16 0xFF61B1E6#32) 8 :=
  (nth_iter _ (fun c s => maxTrip (aT lv c) (cT mu lv c) (dT lse w mu lv c) (z k) (sqV z k) s) k
    (fun c s => by rw [nth_max, nth_tup, nth_tup]) _).trans (by rw [nth_tup])

theorem nth_sumsM (k : Fin 8) : nth (sumsMAt lse w mu lv z 8) k
    = iter8 (fun c s => sumTripM (aT lv c) (cT mu lv c) (dT lse w mu lv c) (z k) (sqV z k) (nth (maxsAt lse w mu lv z 8) k) s) (k16 0x00000000#32) 8 :=
  (nth_iter _ (fun c s => sumTripM (aT lv c) (cT mu lv c) (dT lse w mu lv c) (z k) (sqV z k) (nth (maxsAt lse w mu lv z 8) k) s) k
    (fun c s => by rw [nth_sumM, nth_tup, nth_tup]) _).trans (by rw [nth_tup])

include hlse hw hlv in
theorem pkV_apply (c : Fin 8) (j : Fin 16) : pkV lse w lv c (ix1 j) = cst wr lr (at16 c j) := by
  pointwise [pkV, k16, named_eq, bits_half, hlv, c16_eq, hw, hlse]
  rfl

include hlse hw hlv in
theorem m0V_max : (∀ n, cst wr lr n ≤ m0V lse w lv (ix1 0)) ∧ (IsReal (m0V lse w lv (ix1 0)) ∨ ∃ n, m0V lse w lv (ix1 0) = cst wr lr n) := by
  have h := bfly_max8 (Ideal.ofBits .f32 0xFF61B1E6#32) (cst wr lr) (maximumf (maximumf (maximumf (maximumf (maximumf (maximumf (maximumf (maximumf (k16 0xFF61B1E6#32) (pkV lse w lv 0)) (pkV lse w lv 1)) (pkV lse w lv 2)) (pkV lse w lv 3))
    (pkV lse w lv 4)) (pkV lse w lv 5)) (pkV lse w lv 6)) (pkV lse w lv 7)) 0 (fun j => by
    pointwise [k16, pkV_apply lse w lv wr lr hlse hw hlv])
  refine ⟨h.1, ?_⟩
  rcases h.2 with h' | h'
  · exact .inl ((show m0V lse w lv (ix1 0) = _ from h') ▸ bits_low)
  · exact .inr h'

include hlse hw hmu hlv hz in
/-- The exponent of one component, as the three folds spell it. -/
theorem ex_apply (c : Fin 8) (j : Fin 16) :
    ex (aT lv c) (cT mu lv c) (dT lse w mu lv c) (z k) (sqV z k) i j = expoE wr mr lr zr (m0V lse w lv (ix1 0)) (at16 c j) := by
  have hm : ∀ j, m0V lse w lv (ix1 j) = m0V lse w lv (ix1 0) := fun j => bfly_max_lane _ j 0
  unfold ex
  pointwise [aT, cT, dT, c16_eq, aV, cV8, dV, dV0, precV, sqV, k16, pkV_apply lse w lv wr lr hlse hw hlv, hlv, hmu, hz, hm, bits_neg_half]
  rfl

include hlse hw hmu hlv hz in
theorem sums_apply : nth (sumsAt lse w mu lv z 8) k (ix1 i) = ∑ n, Ideal.exp (expoE wr mr lr zr (m0V lse w lv (ix1 0)) n) := by
  rw [nth_sums, iter8_sum _ _ _ (fun c => ∑ j : Fin 16, Ideal.exp (expoE wr mr lr zr (m0V lse w lv (ix1 0)) (at16 c j))),
    sum_places fun n => Ideal.exp (expoE wr mr lr zr (m0V lse w lv (ix1 0)) n)]
  · pointwise [k16]
  · intro c s
    rw [sumTrip_apply]
    simp only [ex_apply lse w mu lv z wr mr lr hlse hw hmu hlv k i zr hz]

include hlse hw hmu hlv hz in
theorem maxs_real (h : ∀ n, expoE wr mr lr zr (m0V lse w lv (ix1 0)) n ≠ ⊤) : IsReal (nth (maxsAt lse w mu lv z 8) k (ix1 i)) := by
  rw [nth_maxs]
  apply iter8_real
  · exact bits_low
  · intro c s hs
    exact maxTrip_real _ _ _ _ _ _ _ (fun j => (ex_apply lse w mu lv z wr mr lr hlse hw hmu hlv k i zr hz c j).trans_ne (h _)) hs

include hlse hw hmu hlv hz in
theorem sumsM_apply (p : ℝ) (hp : nth (maxsAt lse w mu lv z 8) k (ix1 i) = (p : EReal)) :
    nth (sumsMAt lse w mu lv z 8) k (ix1 i) = ∑ n, Ideal.exp (expoE wr mr lr zr (m0V lse w lv (ix1 0)) n - (p : EReal)) := by
  rw [nth_sumsM, iter8_sum _ _ _ (fun c => ∑ j : Fin 16, Ideal.exp (expoE wr mr lr zr (m0V lse w lv (ix1 0)) (at16 c j) - (p : EReal))),
    sum_places fun n => Ideal.exp (expoE wr mr lr zr (m0V lse w lv (ix1 0)) n - (p : EReal))]
  · pointwise [k16]
  · intro c s
    rw [sumTripM_apply, hp]
    simp only [ex_apply lse w mu lv z wr mr lr hlse hw hmu hlv k i zr hz]

include hlse hw hmu hlv hz in
/-- The row's chunk holds the mixture's log densities. -/
theorem outV_apply (hlr : ∀ k, lr k ≠ ⊥) : outV lse w mu lv z k (ix1 i) = spec wr mr lr zr := by
  obtain ⟨hle, hatt⟩ := m0V_max lse w lv wr lr hlse hw hlv
  have hm : ∀ j, m0V lse w lv (ix1 j) = m0V lse w lv (ix1 0) := fun j => bfly_max_lane _ j 0
  have ht := term_ne_top wr mr lr zr
  have hs : Shifted (expoE wr mr lr zr (m0V lse w lv (ix1 0))) (term wr mr lr zr) (m0V lse w lv (ix1 0)) :=
    shifted_terms wr mr lr zr _ (cst wr lr) hlr (fun _ => rfl) hle hatt
  unfold outV
  split
  · obtain ⟨p, hp⟩ := maxs_real lse w mu lv z wr mr lr hlse hw hmu hlv k i zr hz (hs.ne_top ht)
    have h := sumsM_apply lse w mu lv z wr mr lr hlse hw hmu hlv k i zr hz p hp
    pointwise [redoV, hm, hp, h]
    exact hs.two ht p
  · have h := sums_apply lse w mu lv z wr mr lr hlse hw hmu hlv k i zr hz
    pointwise [okV, hm, h]
    exact hs.one ht

end Row

/-- The SparseCore kernel's result, from what its call is given. -/
theorem scOut_apply (z : Vec Ideal S32x16x128 .f32) (mu lv : Vec Ideal S64x128 .f32) (w : Vec Ideal S128 .f32) (g : Fin 32) (r : Fin 16) (n : Fin 128)
    (l : Fin 64) (hl : l.val = 16 * (g.val / 8) + r.val) (wr mr lr : Fin 128 → EReal) (zr : EReal)
    (hw : ∀ k, w (ix1 k) = wr k) (hmu : ∀ k, mu (ix2 l k) = mr k) (hlv : ∀ k, lv (ix2 l k) = lr k)
    (hz : z (ix3 g r n) = zr) (hlr : ∀ k, lr k ≠ ⊥) :
    scOut z mu lv w (ix3 g r n) = spec wr mr lr zr := by
  have hw' : ∀ c j, tabC (F := Ideal) w c (ix1 j) = wr (at16 c j) := fun c j => hw (at16 c j)
  have hl' : ∀ (y : Fin 64), y.val = 16 * (g.val / 8) + r.val → y = l := fun y hy => Fin.ext (hy.trans hl.symm)
  exact outV_apply (lseV (tabC w)) (tabC w) (rowC (tileM mu g) r) (rowC (tileM lv g) r) (rowC (tileZ z g) r) wr mr lr (lse_lane _ wr hw') hw'
    (fun c j => (congrArg mu (congrArg (fun y => ix2 y (at16 c j)) (hl' _ rfl))).trans (hmu (at16 c j)))
    (fun c j => (congrArg lv (congrArg (fun y => ix2 y (at16 c j)) (hl' _ rfl))).trans (hlv (at16 c j)))
    (chunkOf n) (laneOf n) zr ((congrArg (fun y => z (ix3 g r y)) (at16_chunkOf n)).trans hz) hlr

end Cert.Proof.Mix
-- ==== Proof.HostValue.lean ====
/- The kernel's host operations read at coordinates, and its result at each of them over the extended reals. -/
module

public import proofs.«01_k».proof.Proof.OutValue
public import proofs.«01_k».proof.Proof.ScValue
public import Idealize.ShloMosaic.Lib.StableHlo.ReadAt

@[expose] public section

set_option maxRecDepth 16384

noncomputable section

namespace Cert.Proof.Mix

open Cert.KernelIdeal Cert.KernelIdeal.Gen
open Idealize.ShloMosaic
open Idealize.ShloMosaic.TcCoe

variable {F : FTy → Type} [FloatOps F] [Named F]
variable (m : (ℓ : Loc nD τ sig) → Buf (Elt F) ℓ) (c : Dev nD)

theorem ix2_vals {a b : ℕ} {i i' : Fin a} {j j' : Fin b} (hi : i.val = i'.val) (hj : j.val = j'.val) : ix2 i j = ix2 i' j' := by
  rw [Fin.ext hi, Fin.ext hj]
theorem ix3_vals {a b d : ℕ} {i i' : Fin a} {j j' : Fin b} {k k' : Fin d} (hi : i.val = i'.val) (hj : j.val = j'.val) (hk : k.val = k'.val) :
    ix3 i j k = ix3 i' j' k' := by
  rw [Fin.ext hi, Fin.ext hj, Fin.ext hk]

/-! ## Before the two kernels -/

theorem va_v0 (R : Fin 2048) (x : Fin 128) (b : Fin 4096) (l : Fin 64) (h : 64 * b.val + l.val = 128 * R.val + x.val) :
    (VA m c main_v0 : FVec F S2048x128 .f32) (ix2 R x) = (m ((c : Thread nD τ).loc main_arg0) : FVec F S4096x64 .f32) (ix2 b l) := by
  unfold VA opsA
  after_reads_at
  exact congrArg (m ((c : Thread nD τ).loc main_arg0)) (ix2_vals (show R.val * 2 + x.val / 64 = b.val by omega) (show x.val % 64 = l.val by omega))

theorem va_v5 (g : Fin 32) (r : Fin 16) (n : Fin 128) (b : Fin 4096) (l : Fin 64)
    (hl : l.val = 16 * (g.val / 8) + r.val) (hb : b.val = 3072 + 128 * (g.val % 8) + n.val) :
    (VA m c main_v5 : FVec F S32x16x128 .f32) (ix3 g r n) = (m ((c : Thread nD τ).loc main_arg0) : FVec F S4096x64 .f32) (ix2 b l) := by
  unfold VA opsA
  after_reads_at
  exact congrArg (m ((c : Thread nD τ).loc main_arg0)) (ix2_vals (show 3072 + (g.val % 8 * 128 + n.val) = b.val by omega) (show g.val / 8 * 16 + r.val = l.val by omega))

theorem va_v8 (k x : Fin 128) (l : Fin 64) (h : l.val = x.val % 64) :
    (VA m c main_v8 : FVec F S128x128 .f32) (ix2 k x) = (m ((c : Thread nD τ).loc main_arg1) : FVec F S128x64 .f32) (ix2 k l) := by
  unfold VA opsA
  after_reads_at
  exact congrArg (m ((c : Thread nD τ).loc main_arg1)) (ix2_vals rfl h.symm)

theorem va_v11 (k x : Fin 128) (l : Fin 64) (h : l.val = x.val % 64) :
    (VA m c main_v11 : FVec F S128x128 .f32) (ix2 k x) = (m ((c : Thread nD τ).loc main_arg2) : FVec F S128x64 .f32) (ix2 k l) := by
  unfold VA opsA
  after_reads_at
  exact congrArg (m ((c : Thread nD τ).loc main_arg2)) (ix2_vals rfl h.symm)

theorem va_v12 (k : Fin 128) :
    (VA m c main_v12 : FVec F S1x128 .f32) (ix2 0 k) = (m ((c : Thread nD τ).loc main_arg3) : FVec F S128x1x1 .f32) (ix3 k 0 0) := by
  unfold VA opsA
  after_reads_at

theorem va_v13 (k : Fin 128) (l : Fin 64) :
    (VA m c main_v13 : FVec F S64x128 .f32) (ix2 l k) = (m ((c : Thread nD τ).loc main_arg1) : FVec F S128x64 .f32) (ix2 k l) := by
  unfold VA opsA
  after_reads_at

theorem va_v14 (k : Fin 128) (l : Fin 64) :
    (VA m c main_v14 : FVec F S64x128 .f32) (ix2 l k) = (m ((c : Thread nD τ).loc main_arg2) : FVec F S128x64 .f32) (ix2 k l) := by
  unfold VA opsA
  after_reads_at

theorem va_v15 (k : Fin 128) :
    (VA m c main_v15 : FVec F S128 .f32) (ix1 k) = (m ((c : Thread nD τ).loc main_arg3) : FVec F S128x1x1 .f32) (ix3 k 0 0) := by
  unfold VA opsA
  after_reads_at

/-! ## After them -/

theorem ve_low (l : Fin 64) (b : Fin 4096) (hb : b.val < 3072) (R : Fin 1536) (x : Fin 128) (h : 64 * b.val + l.val = 128 * R.val + x.val) :
    (VE m c main_v23 : FVec F S64x4096 .f32) (ix2 l b) = (VC m c main_v17 : FVec F S1536x128 .f32) (ix2 R x) := by
  unfold VE opsB
  after_reads_at
  rw [dif_pos hb]
  exact congrArg (VC m c (Proc.devRef .tc main_v17)) (ix2_vals (show b.val / 2 = R.val by omega) (show b.val % 2 * 64 + l.val = x.val by omega))

theorem ve_high (l : Fin 64) (b : Fin 4096) (g : Fin 32) (r : Fin 16) (n : Fin 128)
    (hl : l.val = 16 * (g.val / 8) + r.val) (hb : b.val = 3072 + 128 * (g.val % 8) + n.val) :
    (VE m c main_v23 : FVec F S64x4096 .f32) (ix2 l b) = (VC m c main_v16 : FVec F S32x16x128 .f32) (ix3 g r n) := by
  unfold VE opsB
  after_reads_at
  rw [dif_neg (by omega)]
  exact congrArg (VC m c (Proc.devRef .tc main_v16)) (ix3_vals (show l.val / 16 * 8 + (b.val - 3072) / 128 = g.val by omega) (show l.val % 16 = r.val by omega) (show (b.val - 3072) % 128 = n.val by omega))

/-! ## The result -/

section Result
variable (m : (ℓ : Loc nD τ sig) → Buf (Elt Ideal) ℓ) (c : Dev nD) (l : Fin 64) (wr mr lr : Fin 128 → EReal) (zr : EReal)
  (hw : ∀ k, (m ((c : Thread nD τ).loc main_arg3) : FVec Ideal S128x1x1 .f32) (ix3 k 0 0) = wr k)
  (hmu : ∀ k, (m ((c : Thread nD τ).loc main_arg1) : FVec Ideal S128x64 .f32) (ix2 k l) = mr k)
  (hlv : ∀ k, (m ((c : Thread nD τ).loc main_arg2) : FVec Ideal S128x64 .f32) (ix2 k l) = lr k)
  (hlr : ∀ k, lr k ≠ ⊥)
include hw hmu hlv hlr

/-- What the grid kernel leaves for sample `b`, coordinate `l`. -/
theorem grid_value (b : Fin 4096) (R : Fin 1536) (x : Fin 128) (h : 64 * b.val + l.val = 128 * R.val + x.val)
    (hz : (m ((c : Thread nD τ).loc main_arg0) : FVec Ideal S4096x64 .f32) (ix2 b l) = zr) :
    (VC m c main_v17 : FVec Ideal S1536x128 .f32) (ix2 R x) = spec wr mr lr zr := by
  have hl : l.val = x.val % 64 := by omega
  rw [VC_out, outT_apply (fun c b => VB m c b) c ⟨R.val / 64, show R.val / 64 < 24 by omega⟩ ⟨R.val % 64, by omega⟩ x R
    (show R.val = 64 * (R.val / 64) + R.val % 64 by omega)]
  unfold oBlk
  refine tOut_apply _ _ _ _ wr (fun k => ?_) x mr lr (fun k => ?_) (fun k => ?_) _ zr ?_ hlr
  · rw [wA_apply, VB_ne m c main_v12 (by decide)]
    exact (va_v12 m c k).trans (hw k)
  · rw [muA_apply, VB_ne m c main_v8 (by decide)]
    exact (va_v8 m c k x l hl).trans (hmu k)
  · rw [lvA_apply, VB_ne m c main_v11 (by decide)]
    exact (va_v11 m c k x l hl).trans (hlv k)
  · rw [zBlk_apply (fun c b => VB m c b) c _ _ x ⟨R.val, by omega⟩ (show R.val = 64 * (R.val / 64) + R.val % 64 by omega), VB_ne m c main_v0 (by decide)]
    exact (va_v0 m c ⟨R.val, by omega⟩ x b l h).trans hz

/-- What the SparseCore kernel leaves for it. -/
theorem tile_value (b : Fin 4096) (g : Fin 32) (r : Fin 16) (n : Fin 128)
    (hl : l.val = 16 * (g.val / 8) + r.val) (hb : b.val = 3072 + 128 * (g.val % 8) + n.val)
    (hz : (m ((c : Thread nD τ).loc main_arg0) : FVec Ideal S4096x64 .f32) (ix2 b l) = zr) :
    (VC m c main_v16 : FVec Ideal S32x16x128 .f32) (ix3 g r n) = spec wr mr lr zr := by
  rw [VC_ne m c main_v16 (by decide), VB_out, ix3_eq_valueIdx]
  refine scOut_apply _ _ _ _ g r n l hl wr mr lr zr (fun k => ?_) (fun k => ?_) (fun k => ?_) ?_ hlr
  · exact (va_v15 m c k).trans (hw k)
  · exact (va_v13 m c k l).trans (hmu k)
  · exact (va_v14 m c k l).trans (hlv k)
  · exact (va_v5 m c g r n b l hl hb).trans hz

/-- The kernel's result. -/
theorem result_value (b : Fin 4096) (hz : (m ((c : Thread nD τ).loc main_arg0) : FVec Ideal S4096x64 .f32) (ix2 b l) = zr) :
    (VE m c main_v23 : FVec Ideal S64x4096 .f32) (ix2 l b) = spec wr mr lr zr := by
  by_cases hb : b.val < 3072
  · have h : 64 * b.val + l.val = 128 * (b.val / 2) + (b.val % 2 * 64 + l.val) := by omega
    rw [ve_low m c l b hb ⟨b.val / 2, by omega⟩ ⟨b.val % 2 * 64 + l.val, by omega⟩ h]
    exact grid_value m c l wr mr lr zr hw hmu hlv hlr b _ _ h hz
  · have hl : l.val = 16 * ((l.val / 16 * 8 + (b.val - 3072) / 128) / 8) + l.val % 16 := by omega
    have hb' : b.val = 3072 + 128 * ((l.val / 16 * 8 + (b.val - 3072) / 128) % 8) + (b.val - 3072) % 128 := by omega
    rw [ve_high m c l b ⟨l.val / 16 * 8 + (b.val - 3072) / 128, by omega⟩ ⟨l.val % 16, by omega⟩ ⟨(b.val - 3072) % 128, by omega⟩ hl hb']
    exact tile_value m c l wr mr lr zr hw hmu hlv hlr b _ _ _ hl hb' hz

end Result

end Cert.Proof.Mix
-- ==== Proof.lean ====
module

public import proofs.«01_k».proof.Defs
public import proofs.«01_k».proof.Proof.Frames
public import proofs.«01_k».proof.Proof.Variances
public import proofs.«01_k».proof.Proof.RefValue
public import proofs.«01_k».proof.Proof.HostValue
public import proofs.«01_k».proof.Proof.Gen.Pre_positive_variances

@[expose] public section

noncomputable section

namespace Cert.Proof

open Idealize.ShloMosaic Idealize.SL.Sem
open Idealize.ShloMosaic.TcCoe

/-- `Cert.preserves_Kernel_KernelIdeal` (Defs.lean): the named constant is what the ideal module prints in the literal's place. -/
theorem ledger : Cert.preserves_Kernel_KernelIdeal :=
  IdealRules.named_const.statement Cert.KernelIdeal.κ "neg_half_log_two_pi" .f32 0xBF6B3F8E#32 _ rfl

/-- The kernel's result and the reference's, from the same arguments: both are the formula at every place. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_positive_variances m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.res_out0 m' c : FVec Ideal Cert.ReferenceIdeal.S64x4096 .f32)
      = (Mix.VE m c Cert.KernelIdeal.main_v23 : FVec Ideal Cert.KernelIdeal.S64x4096 .f32) := by
  have hlr := Mix.logvars_ne_bot _ _ _ _ (hpre c)
  funext i
  obtain ⟨l, b, rfl⟩ : ∃ (l : Fin 64) (b : Fin 4096), i = ix2 l b := ⟨i 0, i 1, funext fun a => match a with | 0 => rfl | 1 => rfl⟩
  exact (Mix.Ref.value m' c b l _ _ _ _ (fun k => congrFun h3 (ix3 k 0 0)) (fun k => congrFun h1 (ix2 k l)) (fun k => congrFun h2 (ix2 k l))
      (congrFun h0 (ix2 b l)) (fun k => hlr (ix2 k l))).trans
    (Mix.result_value m c l _ _ _ _ (fun k => rfl) (fun k => rfl) (fun k => rfl) (fun k => hlr (ix2 k l)) b rfl).symm

/-- `Cert.algebraic_KernelIdeal_ReferenceIdeal_pre_positive_variances` (Defs.lean). -/
theorem algebraic : Cert.algebraic_KernelIdeal_ReferenceIdeal_pre_positive_variances := fun m ρ m' ρ' hpre hag =>
  ⟨fun c => Mix.VE m c Cert.KernelIdeal.main_v23,
    (θ_run Cert.KernelIdeal.defs _ _).mono (fun _ h c => ⟨h.1 c Cert.KernelIdeal.main_v23 rfl, Mix.QC_args h c⟩) (Mix.run_main (F := Ideal) m ρ),
    (θ_run Cert.ReferenceIdeal.defs _ _).mono
      (fun _ h c => ⟨(h c).1.trans (results_eq m m' hpre c (hag c).1 (hag c).2.1 (hag c).2.2.1 (hag c).2.2.2), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_positive_variances.Gen.facts,
    Mix.frame_kernel, Mix.frame_ideal, fun m ρ _ => Mix.frame_ideal m ρ trivial,
    Mix.frame_reference, fun m ρ _ => Mix.frame_reference m ρ trivial, ledger, algebraic⟩

end Cert.Proof

end
